-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v108)) (v1 : (c : Dev Cert.KernelIdeal.nD) → Buf (Elt Ideal) ((c.tc : Thread Cert.KernelIdeal.nD Cert.KernelIdeal.τ).loc Cert.KernelIdeal.main_v109)) (v2 : (c : Dev Cert.KernelIdeal.nD) → Buf (Elt Ideal) ((c.tc : Thread Cert.KernelIdeal.nD Cert.KernelIdeal.τ).loc Cert.KernelIdeal.main_arg4)) (v3 : (c : Dev Cert.KernelIdeal.nD) → Buf (Elt Ideal) ((c.tc : Thread Cert.KernelIdeal.nD Cert.KernelIdeal.τ).loc Cert.KernelIdeal.main_v110)) (v4 : (c : Dev Cert.KernelIdeal.nD) → Buf (Elt Ideal) ((c.tc : Thread Cert.KernelIdeal.nD Cert.KernelIdeal.τ).loc Cert.KernelIdeal.main_arg6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_v109) = v1 c
          ∧ r.2.mem ((c.tc : Thread Cert.KernelIdeal.nD Cert.KernelIdeal.τ).loc Cert.KernelIdeal.main_arg4) = v2 c
          ∧ r.2.mem ((c.tc : Thread Cert.KernelIdeal.nD Cert.KernelIdeal.τ).loc Cert.KernelIdeal.main_v110) = v3 c
          ∧ r.2.mem ((c.tc : Thread Cert.KernelIdeal.nD Cert.KernelIdeal.τ).loc Cert.KernelIdeal.main_arg6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v49_0) = v1 c
          ∧ r.2.mem ((c.tc : Thread Cert.ReferenceIdeal.nD Cert.ReferenceIdeal.τ).loc Cert.ReferenceIdeal.main_arg4) = v2 c
          ∧ r.2.mem ((c.tc : Thread Cert.ReferenceIdeal.nD Cert.ReferenceIdeal.τ).loc Cert.ReferenceIdeal.main_v49_1) = v3 c
          ∧ r.2.mem ((c.tc : Thread Cert.ReferenceIdeal.nD Cert.ReferenceIdeal.τ).loc Cert.ReferenceIdeal.main_arg6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1x2048 : Shape := ⟨3, ![64, 1, 2048]⟩
abbrev S64x1x8x64 : Shape := ⟨4, ![64, 1, 8, 64]⟩
abbrev S64x2048x8x64 : Shape := ⟨4, ![64, 2048, 8, 64]⟩
abbrev S8 : Shape := ⟨1, ![8]⟩
abbrev S64x8x64x2048 : Shape := ⟨4, ![64, 8, 64, 2048]⟩
abbrev S64x512x2048 : Shape := ⟨3, ![64, 512, 2048]⟩
abbrev S64x8x4x64 : Shape := ⟨4, ![64, 8, 4, 64]⟩
abbrev S64x4x8x64 : Shape := ⟨4, ![64, 4, 8, 64]⟩
abbrev S8x8 : Shape := ⟨2, ![8, 8]⟩
abbrev S_ : Shape := ⟨0, ![]⟩
abbrev S64x4x8x1x64 : Shape := ⟨5, ![64, 4, 8, 1, 64]⟩
abbrev S1x1x8x8x1 : Shape := ⟨5, ![1, 1, 8, 8, 1]⟩
abbrev S64x4x8x8x64 : Shape := ⟨5, ![64, 4, 8, 8, 64]⟩
abbrev S64x32x512 : Shape := ⟨3, ![64, 32, 512]⟩
abbrev S255 : Shape := ⟨1, ![255]⟩
abbrev S1x255 : Shape := ⟨2, ![1, 255]⟩
abbrev S8x1 : Shape := ⟨2, ![8, 1]⟩
abbrev S8x255 : Shape := ⟨2, ![8, 255]⟩
abbrev S8x64 : Shape := ⟨2, ![8, 64]⟩
abbrev S512 : Shape := ⟨1, ![512]⟩
abbrev S1x512 : Shape := ⟨2, ![1, 512]⟩
abbrev S4x512 : Shape := ⟨2, ![4, 512]⟩
abbrev S512x1 : Shape := ⟨2, ![512, 1]⟩
abbrev S64x1x512 : Shape := ⟨3, ![64, 1, 512]⟩
abbrev S64x4x512 : Shape := ⟨3, ![64, 4, 512]⟩
abbrev S1x32x512 : Shape := ⟨3, ![1, 32, 512]⟩
abbrev S1x1x512 : Shape := ⟨3, ![1, 1, 512]⟩
abbrev S1x512x2048 : Shape := ⟨3, ![1, 512, 2048]⟩
abbrev S1x4x512 : Shape := ⟨3, ![1, 4, 512]⟩
abbrev S32x512 : Shape := ⟨2, ![32, 512]⟩
abbrev S512x2048 : Shape := ⟨2, ![512, 2048]⟩
abbrev S32x2048 : Shape := ⟨2, ![32, 2048]⟩
abbrev S32 : Shape := ⟨1, ![32]⟩
abbrev S32x1 : Shape := ⟨2, ![32, 1]⟩
abbrev S4x8x512 : Shape := ⟨3, ![4, 8, 512]⟩

abbrev nBuf : Space → Nat
  | .hbm => 153
  | .vmem => 19
  | .smem => 0
  | _ => 0

abbrev hbmTy0_0 (i : Nat) : BufTy := match i % 128 with
  | 0 => ⟨S64x1x2048, .bf16⟩
  | 1 => ⟨S64x1x8x64, .bf16⟩
  | 2 => ⟨S64x1x8x64, .bf16⟩
  | 3 => ⟨S64x2048x8x64, .fp8e4m3⟩
  | 4 => ⟨S8, .f32⟩
  | 5 => ⟨S64x2048x8x64, .fp8e4m3⟩
  | 6 => ⟨S8, .f32⟩
  | 7 => ⟨S64x8x64x2048, .fp8e4m3⟩
  | 8 => ⟨S64x512x2048, .fp8e4m3⟩
  | 9 => ⟨S64x8x64x2048, .fp8e4m3⟩
  | 10 => ⟨S64x512x2048, .fp8e4m3⟩
  | 11 => ⟨S64x8x4x64, .bf16⟩
  | 12 => ⟨S64x4x8x64, .bf16⟩
  | 13 => ⟨S8x8, .i32⟩
  | 14 => ⟨S8x8, .i32⟩
  | 15 => ⟨S_, .i32⟩
  | 16 => ⟨S8x8, .i32⟩
  | 17 => ⟨S8x8, .i32⟩
  | 18 => ⟨S8x8, .i1⟩
  | 19 => ⟨S8x8, .bf16⟩
  | 20 => ⟨S64x4x8x1x64, .bf16⟩
  | 21 => ⟨S1x1x8x8x1, .bf16⟩
  | 22 => ⟨S64x4x8x8x64, .bf16⟩
  | 23 => ⟨S64x4x8x8x64, .bf16⟩
  | 24 => ⟨S64x4x8x8x64, .bf16⟩
  | 25 => ⟨S64x32x512, .bf16⟩
  | 26 => ⟨S255, .i32⟩
  | 27 => ⟨S_, .i32⟩
  | 28 => ⟨S255, .i32⟩
  | 29 => ⟨S255, .i32⟩
  | 30 => ⟨S_, .i32⟩
  | 31 => ⟨S255, .i32⟩
  | 32 => ⟨S255, .i32⟩
  | 33 => ⟨S255, .f32⟩
  | 34 => ⟨S1x255, .f32⟩
  | 35 => ⟨S8, .f32⟩
  | 36 => ⟨S8x1, .f32⟩
  | 37 => ⟨S8x255, .f32⟩
  | 38 => ⟨S8x255, .f32⟩
  | 39 => ⟨S8x255, .i1⟩
  | 40 => ⟨S8x255, .i32⟩
  | 41 => ⟨S_, .i32⟩
  | 42 => ⟨S8, .i32⟩
  | 43 => ⟨S_, .i32⟩
  | 44 => ⟨S8, .i32⟩
  | 45 => ⟨S8, .i1⟩
  | 46 => ⟨S_, .i32⟩
  | 47 => ⟨S8, .i32⟩
  | 48 => ⟨S8, .i1⟩
  | 49 => ⟨S8, .i1⟩
  | 50 => ⟨S_, .i32⟩
  | 51 => ⟨S8, .i32⟩
  | 52 => ⟨S8, .i32⟩
  | 53 => ⟨S_, .i32⟩
  | 54 => ⟨S_, .i32⟩
  | 55 => ⟨S8, .i32⟩
  | 56 => ⟨S8, .i32⟩
  | 57 => ⟨S_, .i32⟩
  | 58 => ⟨S8, .i32⟩
  | 59 => ⟨S8, .i32⟩
  | 60 => ⟨S_, .i32⟩
  | 61 => ⟨S8, .i32⟩
  | 62 => ⟨S8, .i1⟩
  | 63 => ⟨S_, .i32⟩
  | 64 => ⟨S8, .i32⟩
  | 65 => ⟨S8, .i32⟩
  | 66 => ⟨S_, .i32⟩
  | 67 => ⟨S8, .i32⟩
  | 68 => ⟨S8, .i32⟩
  | 69 => ⟨S_, .i32⟩
  | 70 => ⟨S_, .i32⟩
  | 71 => ⟨S8, .i32⟩
  | 72 => ⟨S8, .i32⟩
  | 73 => ⟨S8, .f32⟩
  | 74 => ⟨S255, .i32⟩
  | 75 => ⟨S_, .i32⟩
  | 76 => ⟨S255, .i32⟩
  | 77 => ⟨S255, .i32⟩
  | 78 => ⟨S_, .i32⟩
  | 79 => ⟨S255, .i32⟩
  | 80 => ⟨S255, .i32⟩
  | 81 => ⟨S255, .f32⟩
  | 82 => ⟨S1x255, .f32⟩
  | 83 => ⟨S8, .f32⟩
  | 84 => ⟨S8x1, .f32⟩
  | 85 => ⟨S8x255, .f32⟩
  | 86 => ⟨S8x255, .f32⟩
  | 87 => ⟨S8x255, .i1⟩
  | 88 => ⟨S8x255, .i32⟩
  | 89 => ⟨S_, .i32⟩
  | 90 => ⟨S8, .i32⟩
  | 91 => ⟨S_, .i32⟩
  | 92 => ⟨S8, .i32⟩
  | 93 => ⟨S8, .i1⟩
  | 94 => ⟨S_, .i32⟩
  | 95 => ⟨S8, .i32⟩
  | 96 => ⟨S8, .i1⟩
  | 97 => ⟨S8, .i1⟩
  | 98 => ⟨S_, .i32⟩
  | 99 => ⟨S8, .i32⟩
  | 100 => ⟨S8, .i32⟩
  | 101 => ⟨S_, .i32⟩
  | 102 => ⟨S_, .i32⟩
  | 103 => ⟨S8, .i32⟩
  | 104 => ⟨S8, .i32⟩
  | 105 => ⟨S_, .i32⟩
  | 106 => ⟨S8, .i32⟩
  | 107 => ⟨S8, .i32⟩
  | 108 => ⟨S_, .i32⟩
  | 109 => ⟨S8, .i32⟩
  | 110 => ⟨S8, .i1⟩
  | 111 => ⟨S_, .i32⟩
  | 112 => ⟨S8, .i32⟩
  | 113 => ⟨S8, .i32⟩
  | 114 => ⟨S_, .i32⟩
  | 115 => ⟨S8, .i32⟩
  | 116 => ⟨S8, .i32⟩
  | 117 => ⟨S_, .i32⟩
  | 118 => ⟨S_, .i32⟩
  | 119 => ⟨S8, .i32⟩
  | 120 => ⟨S8, .i32⟩
  | 121 => ⟨S8, .f32⟩
  | 122 => ⟨S8x64, .f32⟩
  | 123 => ⟨S512, .f32⟩
  | 124 => ⟨S8x64, .f32⟩
  | 125 => ⟨S512, .f32⟩
  | 126 => ⟨S8x64, .f32⟩
  | 127 => ⟨S512, .f32⟩
  | _ => ⟨S64x1x2048, .bf16⟩

abbrev hbmTy0_1 (i : Nat) : BufTy := match i % 128 with
  | 0 => ⟨S8x64, .f32⟩
  | 1 => ⟨S512, .f32⟩
  | 2 => ⟨S1x512, .f32⟩
  | 3 => ⟨S1x512, .f32⟩
  | 4 => ⟨S1x512, .f32⟩
  | 5 => ⟨S1x512, .f32⟩
  | 6 => ⟨S4x512, .f32⟩
  | 7 => ⟨S8, .bf16⟩
  | 8 => ⟨S8x64, .bf16⟩
  | 9 => ⟨S512, .bf16⟩
  | 10 => ⟨S512x1, .bf16⟩
  | 11 => ⟨S8, .bf16⟩
  | 12 => ⟨S8x64, .bf16⟩
  | 13 => ⟨S512, .bf16⟩
  | 14 => ⟨S512x1, .bf16⟩
  | 15 => ⟨S64x1x512, .bf16⟩
  | 16 => ⟨S64x1x512, .bf16⟩
  | 17 => ⟨S64x4x512, .bf16⟩
  | 18 => ⟨S64x1x512, .fp8e4m3⟩
  | 19 => ⟨S64x1x512, .fp8e4m3⟩
  | 20 => ⟨S64x4x8x64, .bf16⟩
  | 21 => ⟨S64x8x4x64, .bf16⟩
  | 22 => ⟨S64x1x2048, .bf16⟩
  | 23 => ⟨S64x1x8x64, .fp8e4m3⟩
  | 24 => ⟨S64x1x8x64, .fp8e4m3⟩
  | _ => ⟨S64x1x2048, .bf16⟩

abbrev hbmTy (i : Nat) : BufTy := match i / 128 with
  | 0 => hbmTy0_0 i
  | 1 => hbmTy0_1 i
  | _ => ⟨S64x1x2048, .bf16⟩

abbrev bufTy : (tb : Table) → Fin (tcTables nBuf tb) → BufTy
  | .hbm, ⟨i, _⟩ => hbmTy i
  | .local _ .vmem, ⟨0, _⟩ => ⟨S1x32x512, .bf16⟩
  | .local _ .vmem, ⟨1, _⟩ => ⟨S1x32x512, .bf16⟩
  | .local _ .vmem, ⟨2, _⟩ => ⟨S1x1x512, .bf16⟩
  | .local _ .vmem, ⟨3, _⟩ => ⟨S1x1x512, .bf16⟩
  | .local _ .vmem, ⟨4, _⟩ => ⟨S1x1x512, .bf16⟩
  | .local _ .vmem, ⟨5, _⟩ => ⟨S1x1x512, .bf16⟩
  | .local _ .vmem, ⟨6, _⟩ => ⟨S1x512x2048, .fp8e4m3⟩
  | .local _ .vmem, ⟨7, _⟩ => ⟨S1x512x2048, .fp8e4m3⟩
  | .local _ .vmem, ⟨8, _⟩ => ⟨S1x512x2048, .fp8e4m3⟩
  | .local _ .vmem, ⟨9, _⟩ => ⟨S1x512x2048, .fp8e4m3⟩
  | .local _ .vmem, ⟨10, _⟩ => ⟨S512x1, .bf16⟩
  | .local _ .vmem, ⟨11, _⟩ => ⟨S512x1, .bf16⟩
  | .local _ .vmem, ⟨12, _⟩ => ⟨S4x512, .f32⟩
  | .local _ .vmem, ⟨13, _⟩ => ⟨S1x4x512, .bf16⟩
  | .local _ .vmem, ⟨14, _⟩ => ⟨S1x4x512, .bf16⟩
  | .local _ .vmem, ⟨15, _⟩ => ⟨S1x1x512, .fp8e4m3⟩
  | .local _ .vmem, ⟨16, _⟩ => ⟨S1x1x512, .fp8e4m3⟩
  | .local _ .vmem, ⟨17, _⟩ => ⟨S1x1x512, .fp8e4m3⟩
  | .local _ .vmem, ⟨18, _⟩ => ⟨S1x1x512, .fp8e4m3⟩
  | _, _ => ⟨S64x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_0 : Ref sig .tc := ⟨.hbm, 27, rfl⟩
abbrev main_v19 : Ref sig .tc := ⟨.hbm, 28, rfl⟩
abbrev main_v20 : Ref sig .tc := ⟨.hbm, 29, rfl⟩
abbrev main_c_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_2 : Ref sig .tc := ⟨.hbm, 41, rfl⟩
abbrev main_v31 : Ref sig .tc := ⟨.hbm, 42, rfl⟩
abbrev main_c_3 : Ref sig .tc := ⟨.hbm, 43, rfl⟩
abbrev main_v32 : Ref sig .tc := ⟨.hbm, 44, rfl⟩
abbrev main_v33 : Ref sig .tc := ⟨.hbm, 45, rfl⟩
abbrev main_c_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_5 : Ref sig .tc := ⟨.hbm, 50, rfl⟩
abbrev main_v37 : Ref sig .tc := ⟨.hbm, 51, rfl⟩
abbrev main_v38 : Ref sig .tc := ⟨.hbm, 52, rfl⟩
abbrev main_c_6 : Ref sig .tc := ⟨.hbm, 53, rfl⟩
abbrev main_call0_v0 : Ref sig .tc := ⟨.hbm, 54, rfl⟩
abbrev main_call0_v1 : Ref sig .tc := ⟨.hbm, 55, rfl⟩
abbrev main_v39 : Ref sig .tc := ⟨.hbm, 56, rfl⟩
abbrev main_c_7 : Ref sig .tc := ⟨.hbm, 57, rfl⟩
abbrev main_v40 : Ref sig .tc := ⟨.hbm, 58, rfl⟩
abbrev main_v41 : Ref sig .tc := ⟨.hbm, 59, rfl⟩
abbrev main_c_8 : Ref sig .tc := ⟨.hbm, 60, rfl⟩
abbrev main_v42 : Ref sig .tc := ⟨.hbm, 61, rfl⟩
abbrev main_v43 : Ref sig .tc := ⟨.hbm, 62, rfl⟩
abbrev main_c_9 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_c_11 : Ref sig .tc := ⟨.hbm, 69, rfl⟩
abbrev main_call1_v0 : Ref sig .tc := ⟨.hbm, 70, rfl⟩
abbrev main_call1_v1 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_12 : Ref sig .tc := ⟨.hbm, 75, rfl⟩
abbrev main_v51 : Ref sig .tc := ⟨.hbm, 76, rfl⟩
abbrev main_v52 : Ref sig .tc := ⟨.hbm, 77, rfl⟩
abbrev main_c_13 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_14 : Ref sig .tc := ⟨.hbm, 89, rfl⟩
abbrev main_v63 : Ref sig .tc := ⟨.hbm, 90, rfl⟩
abbrev main_c_15 : Ref sig .tc := ⟨.hbm, 91, rfl⟩
abbrev main_v64 : Ref sig .tc := ⟨.hbm, 92, rfl⟩
abbrev main_v65 : Ref sig .tc := ⟨.hbm, 93, rfl⟩
abbrev main_c_16 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_17 : Ref sig .tc := ⟨.hbm, 98, rfl⟩
abbrev main_v69 : Ref sig .tc := ⟨.hbm, 99, rfl⟩
abbrev main_v70 : Ref sig .tc := ⟨.hbm, 100, rfl⟩
abbrev main_c_18 : Ref sig .tc := ⟨.hbm, 101, rfl⟩
abbrev main_call2_v0 : Ref sig .tc := ⟨.hbm, 102, rfl⟩
abbrev main_call2_v1 : Ref sig .tc := ⟨.hbm, 103, rfl⟩
abbrev main_v71 : Ref sig .tc := ⟨.hbm, 104, rfl⟩
abbrev main_c_19 : Ref sig .tc := ⟨.hbm, 105, rfl⟩
abbrev main_v72 : Ref sig .tc := ⟨.hbm, 106, rfl⟩
abbrev main_v73 : Ref sig .tc := ⟨.hbm, 107, rfl⟩
abbrev main_c_20 : Ref sig .tc := ⟨.hbm, 108, rfl⟩
abbrev main_v74 : Ref sig .tc := ⟨.hbm, 109, rfl⟩
abbrev main_v75 : Ref sig .tc := ⟨.hbm, 110, rfl⟩
abbrev main_c_21 : Ref sig .tc := ⟨.hbm, 111, rfl⟩
abbrev main_v76 : Ref sig .tc := ⟨.hbm, 112, rfl⟩
abbrev main_v77 : Ref sig .tc := ⟨.hbm, 113, rfl⟩
abbrev main_c_22 : Ref sig .tc := ⟨.hbm, 114, rfl⟩
abbrev main_v78 : Ref sig .tc := ⟨.hbm, 115, rfl⟩
abbrev main_v79 : Ref sig .tc := ⟨.hbm, 116, rfl⟩
abbrev main_c_23 : Ref sig .tc := ⟨.hbm, 117, rfl⟩
abbrev main_call3_v0 : Ref sig .tc := ⟨.hbm, 118, rfl⟩
abbrev main_call3_v1 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105_0 : Ref sig .tc := ⟨.hbm, 145, rfl⟩
abbrev main_v105_1 : Ref sig .tc := ⟨.hbm, 146, rfl⟩
abbrev main_v105_2 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x4x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x512 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S64x1x2048 : Shape := ⟨3, ![64, 1, 2048]⟩
abbrev S64x1x8x64 : Shape := ⟨4, ![64, 1, 8, 64]⟩
abbrev S64x2048x8x64 : Shape := ⟨4, ![64, 2048, 8, 64]⟩
abbrev S8 : Shape := ⟨1, ![8]⟩
abbrev S254 : Shape := ⟨1, ![254]⟩
abbrev S1x254 : Shape := ⟨2, ![1, 254]⟩
abbrev S64x1x8x4x64 : Shape := ⟨5, ![64, 1, 8, 4, 64]⟩
abbrev S8x1 : Shape := ⟨2, ![8, 1]⟩
abbrev S8x254 : Shape := ⟨2, ![8, 254]⟩
abbrev S_ : Shape := ⟨0, ![]⟩
abbrev S8x64 : Shape := ⟨2, ![8, 64]⟩
abbrev S1x1x8x64 : Shape := ⟨4, ![1, 1, 8, 64]⟩
abbrev S64x2049x8x64 : Shape := ⟨4, ![64, 2049, 8, 64]⟩
abbrev S1x1x8x1 : Shape := ⟨4, ![1, 1, 8, 1]⟩
abbrev S64x8x2049x1x4 : Shape := ⟨5, ![64, 8, 2049, 1, 4]⟩
abbrev S64x8x4x1x2049 : Shape := ⟨5, ![64, 8, 4, 1, 2049]⟩
abbrev S64x8x4x1 : Shape := ⟨4, ![64, 8, 4, 1]⟩
abbrev S64x8x4x1x1 : Shape := ⟨5, ![64, 8, 4, 1, 1]⟩
abbrev S64x8x4x1x64 : Shape := ⟨5, ![64, 8, 4, 1, 64]⟩

abbrev nBuf : Space → Nat
  | .hbm => 121
  | .vmem => 12
  | .smem => 0
  | _ => 0

abbrev bufTy : (tb : Table) → Fin (tcTables nBuf tb) → BufTy
  | .hbm, ⟨0, _⟩ => ⟨S64x1x2048, .bf16⟩
  | .hbm, ⟨1, _⟩ => ⟨S64x1x8x64, .bf16⟩
  | .hbm, ⟨2, _⟩ => ⟨S64x1x8x64, .bf16⟩
  | .hbm, ⟨3, _⟩ => ⟨S64x2048x8x64, .fp8e4m3⟩
  | .hbm, ⟨4, _⟩ => ⟨S8, .f32⟩
  | .hbm, ⟨5, _⟩ => ⟨S64x2048x8x64, .fp8e4m3⟩
  | .hbm, ⟨6, _⟩ => ⟨S8, .f32⟩
  | .hbm, ⟨7, _⟩ => ⟨S254, .f32⟩
  | .hbm, ⟨8, _⟩ => ⟨S1x254, .f32⟩
  | .hbm, ⟨9, _⟩ => ⟨S254, .f32⟩
  | .hbm, ⟨10, _⟩ => ⟨S1x254, .f32⟩
  | .hbm, ⟨11, _⟩ => ⟨S254, .f32⟩
  | .hbm, ⟨12, _⟩ => ⟨S1x254, .f32⟩
  | .hbm, ⟨13, _⟩ => ⟨S254, .f32⟩
  | .hbm, ⟨14, _⟩ => ⟨S1x254, .f32⟩
  | .hbm, ⟨15, _⟩ => ⟨S254, .f32⟩
  | .hbm, ⟨16, _⟩ => ⟨S1x254, .f32⟩
  | .hbm, ⟨17, _⟩ => ⟨S254, .f32⟩
  | .hbm, ⟨18, _⟩ => ⟨S1x254, .f32⟩
  | .hbm, ⟨19, _⟩ => ⟨S64x1x8x4x64, .bf16⟩
  | .hbm, ⟨20, _⟩ => ⟨S8, .f32⟩
  | .hbm, ⟨21, _⟩ => ⟨S8x1, .f32⟩
  | .hbm, ⟨22, _⟩ => ⟨S8x254, .f32⟩
  | .hbm, ⟨23, _⟩ => ⟨S8x254, .f32⟩
  | .hbm, ⟨24, _⟩ => ⟨S8x254, .i1⟩
  | .hbm, ⟨25, _⟩ => ⟨S8x254, .f32⟩
  | .hbm, ⟨26, _⟩ => ⟨S8x254, .f32⟩
  | .hbm, ⟨27, _⟩ => ⟨S8x254, .i1⟩
  | .hbm, ⟨28, _⟩ => ⟨S8x254, .i1⟩
  | .hbm, ⟨29, _⟩ => ⟨S_, .f32⟩
  | .hbm, ⟨30, _⟩ => ⟨S_, .f32⟩
  | .hbm, ⟨31, _⟩ => ⟨S8x254, .f32⟩
  | .hbm, ⟨32, _⟩ => ⟨S8x254, .f32⟩
  | .hbm, ⟨33, _⟩ => ⟨S8x254, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .i1⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .i1⟩
  | .hbm, ⟨44, _⟩ => ⟨S8, .i1⟩
  | .hbm, ⟨45, _⟩ => ⟨S_, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S8, .f32⟩
  | .hbm, ⟨50, _⟩ => ⟨S8x1, .f32⟩
  | .hbm, ⟨51, _⟩ => ⟨S8x254, .f32⟩
  | .hbm, ⟨52, _⟩ => ⟨S8x254, .f32⟩
  | .hbm, ⟨53, _⟩ => ⟨S8x254, .i1⟩
  | .hbm, ⟨54, _⟩ => ⟨S8x254, .f32⟩
  | .hbm, ⟨55, _⟩ => ⟨S8x254, .f32⟩
  | .hbm, ⟨56, _⟩ => ⟨S8x254, .i1⟩
  | .hbm, ⟨57, _⟩ => ⟨S8x254, .i1⟩
  | .hbm, ⟨58, _⟩ => ⟨S_, .f32⟩
  | .hbm, ⟨59, _⟩ => ⟨S_, .f32⟩
  | .hbm, ⟨60, _⟩ => ⟨S8x254, .f32⟩
  | .hbm, ⟨61, _⟩ => ⟨S8x254, .f32⟩
  | .hbm, ⟨62, _⟩ => ⟨S8x254, .f32⟩
  | .hbm, ⟨63, _⟩ => ⟨S_, .f32⟩
  | .hbm, ⟨64, _⟩ => ⟨S8, .f32⟩
  | .hbm, ⟨65, _⟩ => ⟨S8, .f32⟩
  | .hbm, ⟨66, _⟩ => ⟨S_, .f32⟩
  | .hbm, ⟨67, _⟩ => ⟨S8, .f32⟩
  | .hbm, ⟨68, _⟩ => ⟨S8, .i1⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S8, .i1⟩
  | .hbm, ⟨73, _⟩ => ⟨S8, .i1⟩
  | .hbm, ⟨74, _⟩ => ⟨S_, .f32⟩
  | .hbm, ⟨75, _⟩ => ⟨S_, .f32⟩
  | .hbm, ⟨76, _⟩ => ⟨S8, .f32⟩
  | .hbm, ⟨77, _⟩ => ⟨S8, .f32⟩
  | .hbm, ⟨78, _⟩ => ⟨S8x1, .f32⟩
  | .hbm, ⟨79, _⟩ => ⟨S8x64, .f32⟩
  | .hbm, ⟨80, _⟩ => ⟨S8x1, .f32⟩
  | .hbm, ⟨81, _⟩ => ⟨S8x64, .f32⟩
  | .hbm, ⟨82, _⟩ => ⟨S64x1x8x64, .fp8e4m3⟩
  | .hbm, ⟨83, _⟩ => ⟨S64x1x8x64, .fp8e4m3⟩
  | .hbm, ⟨84, _⟩ => ⟨S64x2048x8x64, .bf16⟩
  | .hbm, ⟨85, _⟩ => ⟨S64x2048x8x64, .bf16⟩
  | .hbm, ⟨86, _⟩ => ⟨S64x1x8x64, .bf16⟩
  | .hbm, ⟨87, _⟩ => ⟨S64x1x8x64, .bf16⟩
  | .hbm, ⟨88, _⟩ => ⟨S64x2049x8x64, .bf16⟩
  | .hbm, ⟨89, _⟩ => ⟨S8, .bf16⟩
  | .hbm, ⟨90, _⟩ => ⟨S8x1, .bf16⟩
  | .hbm, ⟨91, _⟩ => ⟨S1x1x8x1, .bf16⟩
  | .hbm, ⟨92, _⟩ => ⟨S64x2049x8x64, .bf16⟩
  | .hbm, ⟨93, _⟩ => ⟨S64x2049x8x64, .bf16⟩
  | .hbm, ⟨94, _⟩ => ⟨S64x2049x8x64, .bf16⟩
  | .hbm, ⟨95, _⟩ => ⟨S8, .bf16⟩
  | .hbm, ⟨96, _⟩ => ⟨S8x1, .bf16⟩
  | .hbm, ⟨97, _⟩ => ⟨S1x1x8x1, .bf16⟩
  | .hbm, ⟨98, _⟩ => ⟨S64x2049x8x64, .bf16⟩
  | .hbm, ⟨99, _⟩ => ⟨S64x2049x8x64, .bf16⟩
  | .hbm, ⟨100, _⟩ => ⟨S64x8x2049x1x4, .f32⟩
  | .hbm, ⟨101, _⟩ => ⟨S64x8x4x1x2049, .f32⟩
  | .hbm, ⟨102, _⟩ => ⟨S_, .f32⟩
  | .hbm, ⟨103, _⟩ => ⟨S64x8x4x1x2049, .f32⟩
  | .hbm, ⟨104, _⟩ => ⟨S64x8x4x1x2049, .f32⟩
  | .hbm, ⟨105, _⟩ => ⟨S_, .f32⟩
  | .hbm, ⟨106, _⟩ => ⟨S64x8x4x1, .f32⟩
  | .hbm, ⟨107, _⟩ => ⟨S64x8x4x1x1, .f32⟩
  | .hbm, ⟨108, _⟩ => ⟨S64x8x4x1x2049, .f32⟩
  | .hbm, ⟨109, _⟩ => ⟨S64x8x4x1x2049, .f32⟩
  | .hbm, ⟨110, _⟩ => ⟨S64x8x4x1x2049, .f32⟩
  | .hbm, ⟨111, _⟩ => ⟨S64x2049x8x64, .f32⟩
  | .hbm, ⟨112, _⟩ => ⟨S64x8x4x1x64, .f32⟩
  | .hbm, ⟨113, _⟩ => ⟨S_, .f32⟩
  | .hbm, ⟨114, _⟩ => ⟨S64x8x4x1, .f32⟩
  | .hbm, ⟨115, _⟩ => ⟨S64x8x4x1x1, .f32⟩
  | .hbm, ⟨116, _⟩ => ⟨S64x8x4x1x64, .f32⟩
  | .hbm, ⟨117, _⟩ => ⟨S64x8x4x1x64, .f32⟩
  | .hbm, ⟨118, _⟩ => ⟨S64x1x8x4x64, .f32⟩
  | .hbm, ⟨119, _⟩ => ⟨S64x1x2048, .f32⟩
  | .hbm, ⟨120, _⟩ => ⟨S64x1x2048, .bf16⟩
  | .local _ .vmem, ⟨0, _⟩ => ⟨S64x1x8x64, .bf16⟩
  | .local _ .vmem, ⟨1, _⟩ => ⟨S64x1x8x64, .bf16⟩
  | .local _ .vmem, ⟨2, _⟩ => ⟨S8x64, .f32⟩
  | .local _ .vmem, ⟨3, _⟩ => ⟨S8x64, .f32⟩
  | .local _ .vmem, ⟨4, _⟩ => ⟨S64x2048x8x64, .fp8e4m3⟩
  | .local _ .vmem, ⟨5, _⟩ => ⟨S64x2048x8x64, .fp8e4m3⟩
  | .local _ .vmem, ⟨6, _⟩ => ⟨S64x1x8x64, .fp8e4m3⟩
  | .local _ .vmem, ⟨7, _⟩ => ⟨S64x1x8x64, .fp8e4m3⟩
  | .local _ .vmem, ⟨8, _⟩ => ⟨S64x2048x8x64, .bf16⟩
  | .local _ .vmem, ⟨9, _⟩ => ⟨S64x2048x8x64, .bf16⟩
  | .local _ .vmem, ⟨10, _⟩ => ⟨S64x1x8x64, .bf16⟩
  | .local _ .vmem, ⟨11, _⟩ => ⟨S64x1x8x64, .bf16⟩
  | _, _ => ⟨S64x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_cst_3 : Ref sig .tc := ⟨.hbm, 15, rfl⟩
abbrev main_v4 : Ref sig .tc := ⟨.hbm, 16, rfl⟩
abbrev main_cst_4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v16 : Ref sig .tc := ⟨.hbm, 33, rfl⟩
abbrev main_cst_6 : Ref sig .tc := ⟨.hbm, 34, rfl⟩
abbrev main_v17 : Ref sig .tc := ⟨.hbm, 35, rfl⟩
abbrev main_v18 : Ref sig .tc := ⟨.hbm, 36, rfl⟩
abbrev main_cst_7 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_8 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_9 : Ref sig .tc := ⟨.hbm, 45, rfl⟩
abbrev main_call1_v0 : Ref sig .tc := ⟨.hbm, 46, rfl⟩
abbrev main_call1_v1 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_10 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v35 : Ref sig .tc := ⟨.hbm, 62, rfl⟩
abbrev main_cst_11 : Ref sig .tc := ⟨.hbm, 63, rfl⟩
abbrev main_v36 : Ref sig .tc := ⟨.hbm, 64, rfl⟩
abbrev main_v37 : Ref sig .tc := ⟨.hbm, 65, rfl⟩
abbrev main_cst_12 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_13 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_14 : Ref sig .tc := ⟨.hbm, 74, rfl⟩
abbrev main_call3_v0 : Ref sig .tc := ⟨.hbm, 75, rfl⟩
abbrev main_call3_v1 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49_0 : Ref sig .tc := ⟨.hbm, 82, rfl⟩
abbrev main_v49_1 : Ref sig .tc := ⟨.hbm, 83, rfl⟩
abbrev main_v49_2 : Ref sig .tc := ⟨.hbm, 84, rfl⟩
abbrev main_v49_3 : Ref sig .tc := ⟨.hbm, 85, rfl⟩
abbrev main_v49_4 : Ref sig .tc := ⟨.hbm, 86, rfl⟩
abbrev main_v49_5 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_15 : Ref sig .tc := ⟨.hbm, 102, rfl⟩
abbrev main_v64 : Ref sig .tc := ⟨.hbm, 103, rfl⟩
abbrev main_v65 : Ref sig .tc := ⟨.hbm, 104, rfl⟩
abbrev main_cst_16 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_17 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S64x1x8x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1x8x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048x8x64 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x2048x8x64 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1x8x64 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x1x8x64 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x2048x8x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x2048x8x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x1x8x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x1x8x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Attn.Scale.lean ====
module

public import Idealize.ShloMosaic.Lib.Pointwise
public import Idealize.ShloMosaic.Lib.Pipeline.ValueKit

@[expose] public section

set_option maxRecDepth 16384

noncomputable section

open Idealize.ShloMosaic

namespace Cert.Attn

/-- The word of the k-th power of two, k from 0: 2 ^ (k - 126), the last one the word of +inf. -/
def edgeWord (k : ℕ) : BitVec 32 := IntOp.shli ArithUnit.host (IntOp.addi (1#32) (BitVec.ofNat 32 k)) 23#32

/-- The k-th power of two. -/
def edge (k : ℕ) : EReal := Ideal.ofBits FTy.f32 (edgeWord k)

/-- The three fields of an edge's word. -/
theorem edge_fields : ∀ k : Fin 255, (edgeWord k).extractLsb' 31 1 = 0#1 ∧ ((edgeWord k).extractLsb' 23 8).toNat = (k : ℕ) + 1
    ∧ ((edgeWord k).extractLsb' 0 23).toNat = 0 := by decide +kernel

theorem scaled_pow (k : ℕ) : (8388608 : ℝ) * (2 : ℝ) ^ ((k : ℤ) + 1 - 127 - 23) = (2 : ℝ) ^ ((k : ℤ) - 126) := by
  have h : (8388608 : ℝ) = (2 : ℝ) ^ (23 : ℤ) := by norm_num
  rw [h, ← zpow_add₀ (by norm_num)]
  congr 1
  ring

/-- The value of a finite edge. -/
theorem edge_eq (k : ℕ) (hk : k < 254) : edge k = (((2 : ℝ) ^ ((k : ℤ) - 126) : ℝ) : EReal) := by
  obtain ⟨h1, h2, h3⟩ := edge_fields ⟨k, by omega⟩
  simp only at h1 h2 h3
  unfold edge
  show Ideal.ieee 8 23 (edgeWord k) = _
  unfold Ideal.ieee
  simp only [h2, h3, show (8 + 23 : ℕ) = 31 from rfl, h1]
  rw [if_neg (by omega), if_neg (by omega)]
  norm_num
  rw [← EReal.coe_mul, scaled_pow]

/-- The last edge is +inf. -/
theorem edge_top : edge 254 = ⊤ := by
  obtain ⟨h1, h2, h3⟩ := edge_fields ⟨254, by omega⟩
  simp only at h1 h2 h3
  unfold edge
  show Ideal.ieee 8 23 (edgeWord 254) = _
  unfold Ideal.ieee
  simp only [h2, h3, show (8 + 23 : ℕ) = 31 from rfl, h1]
  norm_num

/-- The edges grow. -/
theorem edge_mono {i k : ℕ} (h : i ≤ k) (hk : k ≤ 254) : edge i ≤ edge k := by
  rcases Nat.lt_or_ge k 254 with h' | h'
  · rw [edge_eq i (by omega), edge_eq k h']
    exact EReal.coe_le_coe_iff.mpr (zpow_le_zpow_right₀ (by norm_num) (by omega))
  · obtain rfl : k = 254 := by omega
    rw [edge_top]; exact le_top

/-- How many edges lie at or below a: the edges at or below it are the first ones. -/
theorem exists_field (a : EReal) : ∃ K : ℕ, K ≤ 255 ∧ ∀ k < 255, edge k ≤ a ↔ k < K := by
  classical
  by_cases h : ∃ k, k < 255 ∧ ¬ edge k ≤ a
  · refine ⟨Nat.find h, (Nat.find_spec h).1.le, fun k hk => ⟨fun hle => ?_, fun hlt => ?_⟩⟩
    · by_contra hge
      exact (Nat.find_spec h).2 ((edge_mono (not_lt.mp hge) (by omega)).trans hle)
    · by_contra hn
      exact Nat.find_min h hlt ⟨hk, hn⟩
  · refine ⟨255, le_rfl, fun k hk => ⟨fun _ => hk, fun _ => ?_⟩⟩
    by_contra hn
    exact h ⟨k, hk, hn⟩

/-- The kernel's count of the edges at or below a. -/
def field (a : EReal) : BitVec 32 :=
  Finset.fold IntOp.addi (0#32) (fun x : Fin 255 => BitVec.setWidth 32 (BitVec.ofBool (decide (edge x ≤ a)))) Finset.univ

/-- Counting the first K of the edges gives K. -/
theorem count_eq : ∀ K : Fin 256, Finset.fold IntOp.addi (0#32)
    (fun x : Fin 255 => BitVec.setWidth 32 (BitVec.ofBool (decide ((x : ℕ) < K)))) Finset.univ = BitVec.ofNat 32 K := by
  decide +kernel

theorem field_eq (a : EReal) (K : ℕ) (hK : K ≤ 255) (h : ∀ k < 255, edge k ≤ a ↔ k < K) : field a = BitVec.ofNat 32 K := by
  unfold field
  simp only [h _ (Fin.isLt _)]
  exact count_eq ⟨K, by omega⟩

/-- The word of the inverse scale, 2 ^ (1 - e), from the count; the subnormal 2 ^ (-127) is flushed to 0. -/
def inverseWord (n : BitVec 32) : BitVec 32 :=
  Scalar.select
    (IntOp.cmpi CmpIPredicate.eq
      (IntOp.subi (1#32) (Scalar.select (IntOp.ori (IntOp.cmpi CmpIPredicate.eq n 0#32) (IntOp.cmpi CmpIPredicate.eq n 255#32)) 0#32 (IntOp.subi n 126#32)))
      4294967169#32)
    0#32
    (IntOp.shli ArithUnit.host
      (IntOp.addi
        (IntOp.subi (1#32) (Scalar.select (IntOp.ori (IntOp.cmpi CmpIPredicate.eq n 0#32) (IntOp.cmpi CmpIPredicate.eq n 255#32)) 0#32 (IntOp.subi n 126#32)))
        127#32)
      23#32)

/-- The inverse scale of a head from the absolute value of its scale. -/
def inverse (a : EReal) : EReal := Ideal.ofBits FTy.f32 (inverseWord (field a))

theorem select_and {α : Type} (p q : Prop) [Decidable p] [Decidable q] (x y : α) :
    Scalar.select (IntOp.andi (BitVec.ofBool (decide p)) (BitVec.ofBool (decide q))) x y = if p ∧ q then x else y := by
  by_cases hp : p <;> by_cases hq : q <;> simp [Scalar.select, IntOp.andi, hp, hq]

/-- Without a positive count, or with all the edges counted (an infinite scale), the inverse scale is 2. -/
theorem inverseWord_ends : inverseWord (BitVec.ofNat 32 0) = 1073741824#32 ∧ inverseWord (BitVec.ofNat 32 255) = 1073741824#32 := by
  decide +kernel

/-- The table form of the inverse scale is the counted one: a picks out of the table the one interval it lies in, and outside of the table
    the inverse is 2 in both. -/
theorem table_eq (a : EReal) :
    Scalar.select (IntOp.andi (BitVec.ofBool (decide (edge 0 ≤ a))) (BitVec.ofBool (decide (a < edge 254))))
      (∑ x : Fin 254, Scalar.select (IntOp.andi (BitVec.ofBool (decide (edge x ≤ a))) (BitVec.ofBool (decide (a < edge (x + 1)))))
        (Ideal.ofBits FTy.f32 (inverseWord (BitVec.ofNat 32 (x + 1))) : EReal) (Ideal.ofBits FTy.f32 0#32))
      (Ideal.ofBits FTy.f32 1073741824#32) = inverse a := by
  obtain ⟨K, hK, h⟩ := exists_field a
  have hlt : ∀ k < 255, a < edge k ↔ ¬ k < K := fun k hk => by rw [← h k hk, not_le]
  have hz : (Ideal.ofBits FTy.f32 0#32 : EReal) = 0 := by
    show Ideal.ieee 8 23 0#32 = 0
    unfold Ideal.ieee
    norm_num
  unfold inverse
  rw [field_eq a K hK h]
  simp only [select_and]
  by_cases hn : 0 < K ∧ K ≤ 254
  · rw [if_pos ⟨(h 0 (by omega)).2 hn.1, (hlt 254 (by omega)).2 (by omega)⟩,
      Finset.sum_eq_single (⟨K - 1, by omega⟩ : Fin 254)]
    · have hk : K - 1 + 1 = K := by omega
      rw [if_pos]
      · simp only [hk]
      · exact ⟨(h (K - 1) (by omega)).2 (by omega), (hlt (K - 1 + 1) (by omega)).2 (by omega)⟩
    · intro x _ hx
      rw [if_neg, hz]
      rintro ⟨h1, h2⟩
      have h1' := (h x (by omega)).1 h1
      have h2' := (hlt (x + 1) (by omega)).1 h2
      apply hx
      apply Fin.ext
      simp only
      omega
    · intro hx; exact absurd (Finset.mem_univ _) hx
  · rw [if_neg]
    · rcases Nat.eq_zero_or_pos K with rfl | hp
      · rw [inverseWord_ends.1]
      · obtain rfl : K = 255 := by omega
        rw [inverseWord_ends.2]
    · rintro ⟨h1, h2⟩
      exact hn ⟨(h 0 (by omega)).1 h1, by have := (hlt 254 (by omega)).1 h2; omega⟩

end Cert.Attn
-- ==== Proof.Attn.Values.lean ====
module

public import proofs.«01_k».proof.Proof.Attn.Scale

@[expose] public section

set_option maxRecDepth 16384

noncomputable section

open Idealize.ShloMosaic

namespace Cert.Attn

variable (x : FVec Ideal ⟨3, ![64, 1, 2048]⟩ .bf16) (kn vn : FVec Ideal ⟨4, ![64, 1, 8, 64]⟩ .bf16)
  (kc vc : FVec Ideal ⟨4, ![64, 2048, 8, 64]⟩ .fp8e4m3) (ks vs : FVec Ideal ⟨1, ![8]⟩ .f32)

/-- The code of one element of the new token's key or value. -/
def code (n : FVec Ideal ⟨4, ![64, 1, 8, 64]⟩ .bf16) (s : FVec Ideal ⟨1, ![8]⟩ .f32) (b : Fin 64) (h : Fin 8) (d : Fin 64) : EReal :=
  min (Ideal.ofBits FTy.f32 1138753536#32) (max (Ideal.ofBits FTy.f32 3286237184#32)
    (n (ix4 b 0 h d) * inverse (FloatOps.absf (F := Ideal) (φ := .f32) (s (ix1 h)))))

/-- The codes of the new token's key or value, as one array. -/
def codes (n : FVec Ideal ⟨4, ![64, 1, 8, 64]⟩ .bf16) (s : FVec Ideal ⟨1, ![8]⟩ .f32) : FVec Ideal ⟨4, ![64, 1, 8, 64]⟩ .fp8e4m3 :=
  fun i => code n s (i 0) (i 2) (i 3)

/-- One query element: sequence b, head h, query g of the group, channel e. -/
def query (b : Fin 64) (h : Fin 8) (g : Fin 4) (e : Fin 64) : EReal := x (ix3 b 0 ⟨h * 256 + g * 64 + e, by omega⟩)

/-- The scaled score of a cached token. -/
def score (b : Fin 64) (h : Fin 8) (g : Fin 4) (t : Fin 2048) : EReal :=
  (∑ e : Fin 64, query x b h g e * (kc (ix4 b t h e) * ks (ix1 h))) * Ideal.ofBits FTy.f32 1040187392#32

/-- The scaled score of the new token. -/
def newScore (b : Fin 64) (h : Fin 8) (g : Fin 4) : EReal :=
  (∑ e : Fin 64, query x b h g e * (code kn ks b h e * ks (ix1 h))) * Ideal.ofBits FTy.f32 1040187392#32

/-- The largest score. -/
def top (b : Fin 64) (h : Fin 8) (g : Fin 4) : EReal :=
  max (Finset.fold max (Ideal.ofBits FTy.f32 4286578688#32) (fun t : Fin 2048 => score x kc ks b h g t) Finset.univ) (newScore x kn ks b h g)

/-- One element of the attention output. -/
def attend (b : Fin 64) (h : Fin 8) (g : Fin 4) (d : Fin 64) : EReal :=
  Ideal.div
    ((∑ t : Fin 2048, Ideal.exp (score x kc ks b h g t - top x kn kc ks b h g) * (vc (ix4 b t h d) * vs (ix1 h)))
      + Ideal.exp (newScore x kn ks b h g - top x kn kc ks b h g) * (code vn vs b h d * vs (ix1 h)))
    ((∑ t : Fin 2048, Ideal.exp (score x kc ks b h g t - top x kn kc ks b h g)) + Ideal.exp (newScore x kn ks b h g - top x kn kc ks b h g))

/-- The attention output. -/
def output : FVec Ideal ⟨3, ![64, 1, 2048]⟩ .bf16 := fun i =>
  attend x kn vn kc vc ks vs (i 0) ⟨(i 2 : ℕ) / 256, by have : (i 2 : ℕ) < 2048 := (i 2).isLt; omega⟩ ⟨(i 2 : ℕ) / 64 % 4, by omega⟩ ⟨(i 2 : ℕ) % 64, by omega⟩

/-- A sum over 512 head channels of which the left factor keeps only head h's is the sum over that head's 64 channels. -/
theorem sum_head (h : ℕ) (hh : h < 8) (A B : Fin 512 → EReal) :
    ∑ j : Fin 512, (if h = (j : ℕ) / 64 then A j else 0) * B j
      = ∑ e : Fin 64, A ⟨h * 64 + e, by omega⟩ * B ⟨h * 64 + e, by omega⟩ := by
  rw [Fin.sum_univ_tiles 8 64 rfl, Finset.sum_eq_single (⟨h, hh⟩ : Fin 8)]
  · refine Finset.sum_congr rfl fun e _ => ?_
    rw [if_pos (show h = (h * 64 + (e : ℕ)) / 64 by omega)]
  · intro k _ hk
    refine Finset.sum_eq_zero fun e _ => ?_
    rw [if_neg, zero_mul]
    intro he
    exact hk (Fin.ext (show (k : ℕ) = h by simp only at he; omega))
  · intro hx; exact absurd (Finset.mem_univ _) hx

/-- The maximum over one more element. -/
theorem fold_max_succ (w : EReal) (f : Fin 2049 → EReal) :
    Finset.fold max w f Finset.univ = max (Finset.fold max w (fun t : Fin 2048 => f ⟨t, by omega⟩) Finset.univ) (f ⟨2048, by omega⟩) := by
  rw [Fin.univ_castSuccEmb, Finset.fold_cons, Finset.fold_map, max_comm]
  rfl

end Cert.Attn
-- ==== Proof.Attn.Body.lean ====
module

public import proofs.«01_k».proof.Proof.Gen.KernelIdeal.Frame
public import proofs.«01_k».proof.Proof.Attn.Values

@[expose] public section

set_option maxRecDepth 16384

noncomputable section

open Idealize.ShloMosaic Idealize.ShloMosaic.TcCoe Idealize.SL.Sem
open Idealize.ShloMosaic.ValueIdx hiding ix1 ix2 ix3 ix4

namespace Cert.KernelIdeal.Body
open Cert.KernelIdeal Cert.KernelIdeal.Gen

/-- A row of the table of scales. -/
theorem row0 (x : FVec Ideal S4x512 .f32) (j : Fin 512) : View.ld (Val := Elt Ideal) (e' := .f32) x r0_1 (ix2 0 j) = x (ix2 0 j) :=
  View.ld_unit_apply_of _ _ _ _ _ _ (by intro a; fin_cases a <;> simp [ix2])
theorem row1 (x : FVec Ideal S4x512 .f32) (j : Fin 512) : View.ld (Val := Elt Ideal) (e' := .f32) x r0_2 (ix2 0 j) = x (ix2 1 j) :=
  View.ld_unit_apply_of _ _ _ _ _ _ (by intro a; fin_cases a <;> simp [ix2])
theorem row2 (x : FVec Ideal S4x512 .f32) (j : Fin 512) : View.ld (Val := Elt Ideal) (e' := .f32) x r0_3 (ix2 0 j) = x (ix2 2 j) :=
  View.ld_unit_apply_of _ _ _ _ _ _ (by intro a; fin_cases a <;> simp [ix2])
theorem row3 (x : FVec Ideal S4x512 .f32) (j : Fin 512) : View.ld (Val := Elt Ideal) (e' := .f32) x r0_4 (ix2 0 j) = x (ix2 3 j) :=
  View.ld_unit_apply_of _ _ _ _ _ _ (by intro a; fin_cases a <;> simp [ix2])

/-- The new token's key codes. -/
theorem keyCode (v2 : FVec Ideal S1x512 .f32) (v12 : FVec Ideal S1x1x512 .bf16) (j : Fin 512) :
    k0_pay5 (F := Ideal) v2 v12 (ix2 0 j) = min (Ideal.ofBits FTy.f32 1138753536#32) (max (Ideal.ofBits FTy.f32 3286237184#32) (v12 (ix3 0 0 j) * v2 (ix2 0 j))) := by
  pointwise [k0_pay5]

/-- The new token's value codes. -/
theorem valueCode (v4 : FVec Ideal S1x512 .f32) (v21 : FVec Ideal S1x1x512 .bf16) (j : Fin 512) :
    k0_pay6 (F := Ideal) v4 v21 (ix2 0 j) = min (Ideal.ofBits FTy.f32 1138753536#32) (max (Ideal.ofBits FTy.f32 3286237184#32) (v21 (ix3 0 0 j) * v4 (ix2 0 j))) := by
  pointwise [k0_pay6]

theorem keyBlock (v2 : FVec Ideal S1x512 .f32) (v12 : FVec Ideal S1x1x512 .bf16) (j : Fin 512) : k0_pay7 v2 v12 (ix3 0 0 j) = k0_pay5 (F := Ideal) v2 v12 (ix2 0 j) := by
  pointwise [k0_pay7]

theorem valueBlock (v29 : FVec Ideal S1x512 .fp8e4m3) (j : Fin 512) : k0_pay8 (F := Ideal) v29 (ix3 0 0 j) = v29 (ix2 0 j) := by
  pointwise [k0_pay8]

theorem queryRows (x0 : FVec Ideal S1x32x512 .bf16) (r : Fin 32) (j : Fin 512) : k0_pay2 (F := Ideal) x0 (ix2 r j) = x0 (ix3 0 r j) := by
  pointwise [k0_pay2]

theorem keyScaleRow (v : FVec Ideal S1x512 .f32) (j : Fin 512) : k0_pay3 (F := Ideal) v (ix2 0 j) = v (ix2 0 j) := by
  pointwise [k0_pay3]

theorem valueScaleRow (v : FVec Ideal S1x512 .f32) (j : Fin 512) : k0_pay4 (F := Ideal) v (ix2 0 j) = v (ix2 0 j) := by
  pointwise [k0_pay4]

theorem valueRow (v11 : FVec Ideal S1x512 .bf16) (v29 : FVec Ideal S1x512 .fp8e4m3) (j : Fin 512) : k0_pay9 (F := Ideal) v11 v29 (ix2 0 j) = v29 (ix2 0 j) * v11 (ix2 0 j) := by
  pointwise [k0_pay9]

theorem valueCols (v70 : FVec Ideal S1x512x2048 .fp8e4m3) (j : Fin 512) (t : Fin 2048) : k0_pay16 (F := Ideal) v70 (ix2 j t) = v70 (ix3 0 j t) := by
  pointwise [k0_pay16]

/-- The scaled score of a cached token, as the body computes it. -/
theorem score (v1 : FVec Ideal S32x512 .bf16) (v42 : FVec Ideal S1x512x2048 .fp8e4m3) (v45 : FVec Ideal S512x1 .bf16) (r : Fin 32) (t : Fin 2048) :
    k0_pay10 v1 v42 v45 (ix2 r t) = (∑ j, v1 (ix2 r j) * (v42 (ix3 0 j t) * v45 (ix2 j 0))) * Ideal.ofBits FTy.f32 1040187392#32 := by
  pointwise [k0_pay10]

/-- The scaled score of the new token, as the body computes it. -/
theorem newScore (v1 : FVec Ideal S32x512 .bf16) (v8 : FVec Ideal S1x512 .bf16) (v20 : FVec Ideal S1x512 .fp8e4m3) (r : Fin 32) :
    k0_pay11 v1 v8 v20 (ix2 r 0) = (∑ j, v1 (ix2 r j) * (v20 (ix2 0 j) * v8 (ix2 0 j))) * Ideal.ofBits FTy.f32 1040187392#32 := by
  pointwise [k0_pay11]

theorem top (v1 : FVec Ideal S32x512 .bf16) (v8 : FVec Ideal S1x512 .bf16) (v20 : FVec Ideal S1x512 .fp8e4m3) (v42 : FVec Ideal S1x512x2048 .fp8e4m3)
    (v45 : FVec Ideal S512x1 .bf16) (r : Fin 32) :
    k0_pay12 v1 v8 v20 v42 v45 (ix2 r 0)
      = max (Finset.fold max (Ideal.ofBits FTy.f32 4286578688#32) (fun t : Fin 2048 => k0_pay10 v1 v42 v45 (ix2 r t)) Finset.univ) (k0_pay11 v1 v8 v20 (ix2 r 0)) := by
  pointwise [k0_pay12]

theorem weight (v1 : FVec Ideal S32x512 .bf16) (v8 : FVec Ideal S1x512 .bf16) (v20 : FVec Ideal S1x512 .fp8e4m3) (v42 : FVec Ideal S1x512x2048 .fp8e4m3)
    (v45 : FVec Ideal S512x1 .bf16) (r : Fin 32) (t : Fin 2048) :
    k0_pay13 v1 v8 v20 v42 v45 (ix2 r t) = Ideal.exp (k0_pay10 v1 v42 v45 (ix2 r t) - k0_pay12 v1 v8 v20 v42 v45 (ix2 r 0)) := by
  pointwise [k0_pay13]

theorem newWeight (v1 : FVec Ideal S32x512 .bf16) (v8 : FVec Ideal S1x512 .bf16) (v20 : FVec Ideal S1x512 .fp8e4m3) (v42 : FVec Ideal S1x512x2048 .fp8e4m3)
    (v45 : FVec Ideal S512x1 .bf16) (r : Fin 32) :
    k0_pay14 v1 v8 v20 v42 v45 (ix2 r 0) = Ideal.exp (k0_pay11 v1 v8 v20 (ix2 r 0) - k0_pay12 v1 v8 v20 v42 v45 (ix2 r 0)) := by
  pointwise [k0_pay14]

theorem total (v1 : FVec Ideal S32x512 .bf16) (v8 : FVec Ideal S1x512 .bf16) (v20 : FVec Ideal S1x512 .fp8e4m3) (v42 : FVec Ideal S1x512x2048 .fp8e4m3)
    (v45 : FVec Ideal S512x1 .bf16) (r : Fin 32) :
    k0_pay15 v1 v8 v20 v42 v45 (ix2 r 0) = (∑ t, k0_pay13 v1 v8 v20 v42 v45 (ix2 r t)) + k0_pay14 v1 v8 v20 v42 v45 (ix2 r 0) := by
  pointwise [k0_pay15]

theorem mixed (v41 : FVec Ideal S1x512 .f32) (v64 : FVec Ideal S32x2048 .f32) (v66 : FVec Ideal S32x1 .f32) (v69 : FVec Ideal S32x1 .f32)
    (v72 : FVec Ideal S512x2048 .bf16) (v73 : FVec Ideal S512x1 .bf16) (r : Fin 32) (j : Fin 512)  :
    k0_pay17 v41 v64 v66 v69 v72 v73 (ix2 r j)
      = Ideal.div ((∑ t, v64 (ix2 r t) * (v72 (ix2 j t) * v73 (ix2 j 0))) + v66 (ix2 r 0) * v41 (ix2 0 j)) (v69 (ix2 r 0)) := by
  pointwise [k0_pay17]

/-- The head a row belongs to, as the body's integer operations compute it. -/
def rowHead (w : BitVec 32) : BitVec 32 :=
  Scalar.select
    (IntOp.andi
      (IntOp.xori
        (IntOp.cmpi CmpIPredicate.slt
          (IntOp.remsi ArithUnit.vector w (Scalar.select (Scalar.cmpi CmpIPredicate.eq 8#32 0#32) 1#32 8#32)) 0#32)
        (Scalar.cmpi CmpIPredicate.slt (Scalar.select (Scalar.cmpi CmpIPredicate.eq 8#32 0#32) 1#32 8#32) 0#32))
      (IntOp.cmpi CmpIPredicate.ne
        (IntOp.remsi ArithUnit.vector w (Scalar.select (Scalar.cmpi CmpIPredicate.eq 8#32 0#32) 1#32 8#32)) 0#32))
    (IntOp.addi
      (IntOp.remsi ArithUnit.vector w (Scalar.select (Scalar.cmpi CmpIPredicate.eq 8#32 0#32) 1#32 8#32))
      (Scalar.select (Scalar.cmpi CmpIPredicate.eq 8#32 0#32) 1#32 8#32))
    (IntOp.remsi ArithUnit.vector w (Scalar.select (Scalar.cmpi CmpIPredicate.eq 8#32 0#32) 1#32 8#32))

/-- The head a channel belongs to, as the body's integer operations compute it. -/
def colHead (w : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32)
    (IntOp.divsi ArithUnit.vector w 64#32)

theorem rowHead_eq : ∀ r : Fin 32, rowHead (BitVec.ofNat 32 r) = BitVec.ofNat 32 (r % 8) := by decide +kernel
theorem colHead_eq : ∀ j : Fin 512, colHead (BitVec.ofNat 32 j) = BitVec.ofNat 32 (j / 64) := by decide +kernel
theorem head_eq : ∀ a b : Fin 8, IntOp.cmpi CmpIPredicate.eq (BitVec.ofNat 32 a) (BitVec.ofNat 32 b) = if a = b then 1#1 else 0#1 := by decide +kernel

/-- The output block keeps, of the rows of a group query, the row of the channel's own head. -/
theorem picked (v84 : FVec Ideal S32x512 .f32) (g : Fin 4) (j : Fin 512)  :
    k0_pay1 (F := Ideal) v84 k0_pay18 k0_pay19 k0_pay20 k0_pay21 0#32 (ix3 0 g j) = v84 (ix2 ⟨g * 8 + j / 64, by omega⟩ j) := by
  pointwise [k0_pay1, k0_pay18, k0_pay19, k0_pay20, k0_pay21]
  change ∑ h : Fin 8, Scalar.select (IntOp.cmpi CmpIPredicate.eq (rowHead (BitVec.ofNat 32 (g * 8 + h))) (colHead (BitVec.ofNat 32 j)))
    (v84 (ix2 ⟨g * 8 + h, by omega⟩ j)) (0 : EReal) = _
  have hsel : ∀ h : Fin 8, IntOp.cmpi CmpIPredicate.eq (rowHead (BitVec.ofNat 32 (g * 8 + h))) (colHead (BitVec.ofNat 32 j))
      = if h = (⟨j / 64, by omega⟩ : Fin 8) then 1#1 else 0#1 := fun h => by
    have h1 := rowHead_eq ⟨g * 8 + h, by omega⟩
    have h2 : ((g : ℕ) * 8 + h) % 8 = h := by omega
    simp only [h2] at h1
    rw [h1, colHead_eq j]
    exact head_eq h ⟨j / 64, by omega⟩
  rw [Finset.sum_eq_single (⟨j / 64, by omega⟩ : Fin 8)]
  · rw [hsel, if_pos rfl]; rfl
  · intro h _ hne
    rw [hsel, if_neg hne]; rfl
  · intro hx; exact absurd (Finset.mem_univ _) hx

section Chain

variable (x : FVec Ideal ⟨3, ![64, 1, 2048]⟩ .bf16) (kn vn : FVec Ideal ⟨4, ![64, 1, 8, 64]⟩ .bf16)
  (kc vc : FVec Ideal ⟨4, ![64, 2048, 8, 64]⟩ .fp8e4m3) (ks vs : FVec Ideal ⟨1, ![8]⟩ .f32) (b : Fin 64)
  (v1 : FVec Ideal S32x512 .bf16) (v8 v11 : FVec Ideal S1x512 .bf16) (v20 v29 : FVec Ideal S1x512 .fp8e4m3)
  (v42 v70 : FVec Ideal S1x512x2048 .fp8e4m3) (v45 v73 : FVec Ideal S512x1 .bf16)

/-- What the operands of the body's products hold at sequence b, in terms of the arguments. -/
structure Holds : Prop where
  q : ∀ (r : Fin 32) (j : Fin 512), v1 (ix2 r j) = if (r : ℕ) % 8 = j / 64 then x (ix3 b 0 ⟨r % 8 * 256 + r / 8 * 64 + j % 64, by omega⟩) else (0 : EReal)
  ksRow : ∀ j : Fin 512, v8 (ix2 0 j) = ks (ix1 ⟨j / 64, by omega⟩)
  vsRow : ∀ j : Fin 512, v11 (ix2 0 j) = vs (ix1 ⟨j / 64, by omega⟩)
  kNew : ∀ j : Fin 512, v20 (ix2 0 j) = Attn.code kn ks b ⟨j / 64, by omega⟩ ⟨j % 64, by omega⟩
  vNew : ∀ j : Fin 512, v29 (ix2 0 j) = Attn.code vn vs b ⟨j / 64, by omega⟩ ⟨j % 64, by omega⟩
  kOld : ∀ (j : Fin 512) (t : Fin 2048), v42 (ix3 0 j t) = kc (ix4 b t ⟨j / 64, by omega⟩ ⟨j % 64, by omega⟩)
  vOld : ∀ (j : Fin 512) (t : Fin 2048), v70 (ix3 0 j t) = vc (ix4 b t ⟨j / 64, by omega⟩ ⟨j % 64, by omega⟩)
  ksCol : ∀ j : Fin 512, v45 (ix2 j 0) = ks (ix1 ⟨j / 64, by omega⟩)
  vsCol : ∀ j : Fin 512, v73 (ix2 j 0) = vs (ix1 ⟨j / 64, by omega⟩)

variable {x kn vn kc vc ks vs b v1 v8 v11 v20 v29 v42 v70 v45 v73}
variable (H : Holds x kn vn kc vc ks vs b v1 v8 v11 v20 v29 v42 v70 v45 v73)
include H

theorem query_row (h : Fin 8) (g : Fin 4) (B : Fin 512 → EReal) :
    ∑ j : Fin 512, v1 (ix2 ⟨g * 8 + h, by omega⟩ j) * B j = ∑ e : Fin 64, Attn.query x b h g e * B ⟨h * 64 + e, by omega⟩ := by
  have hq : ∀ j : Fin 512, v1 (ix2 ⟨g * 8 + h, by omega⟩ j)
      = if (h : ℕ) = j / 64 then x (ix3 b 0 ⟨h * 256 + g * 64 + j % 64, by omega⟩) else (0 : EReal) := fun j => by
    have h1 : ((g : ℕ) * 8 + h) % 8 = h := by omega
    have h2 : ((g : ℕ) * 8 + h) / 8 = g := by omega
    rw [H.q]
    simp only [h1, h2]
  simp only [hq]
  rw [Attn.sum_head h h.isLt]
  refine Finset.sum_congr rfl fun e _ => ?_
  have h3 : ((h : ℕ) * 64 + e) % 64 = e := by omega
  simp only [h3]
  rfl

theorem score_eq (h : Fin 8) (g : Fin 4) (t : Fin 2048) : k0_pay10 v1 v42 v45 (ix2 ⟨g * 8 + h, by omega⟩ t) = Attn.score x kc ks b h g t := by
  rw [score, query_row H]
  simp only [H.kOld, H.ksCol]
  have h3 : ∀ e : Fin 64, ((h : ℕ) * 64 + e) % 64 = e := by omega
  have h4 : ∀ e : Fin 64, ((h : ℕ) * 64 + e) / 64 = h := by omega
  simp only [h3, h4]
  rfl

theorem newScore_eq (h : Fin 8) (g : Fin 4) : k0_pay11 v1 v8 v20 (ix2 ⟨g * 8 + h, by omega⟩ 0) = Attn.newScore x kn ks b h g := by
  rw [newScore, query_row H]
  simp only [H.kNew, H.ksRow]
  have h3 : ∀ e : Fin 64, ((h : ℕ) * 64 + e) % 64 = e := by omega
  have h4 : ∀ e : Fin 64, ((h : ℕ) * 64 + e) / 64 = h := by omega
  simp only [h3, h4]
  rfl

theorem top_eq (h : Fin 8) (g : Fin 4) : k0_pay12 v1 v8 v20 v42 v45 (ix2 ⟨g * 8 + h, by omega⟩ 0) = Attn.top x kn kc ks b h g := by
  rw [top, newScore_eq H]
  simp only [score_eq H]
  rfl

/-- The output block at query g and channel j is the attention of the channel's head. -/
theorem attend_eq (g : Fin 4) (j : Fin 512) :
    k0_pay1 (F := Ideal) (k0_pay17 (k0_pay9 v11 v29) (k0_pay13 v1 v8 v20 v42 v45) (k0_pay14 v1 v8 v20 v42 v45) (k0_pay15 v1 v8 v20 v42 v45)
        (k0_pay16 (F := Ideal) v70) v73) k0_pay18 k0_pay19 k0_pay20 k0_pay21 0#32 (ix3 0 g j)
      = Attn.attend x kn vn kc vc ks vs b ⟨j / 64, by omega⟩ g ⟨j % 64, by omega⟩ := by
  rw [picked, mixed, total, newWeight, valueRow]
  have hs := score_eq H ⟨j / 64, by omega⟩ g
  have hn := newScore_eq H ⟨j / 64, by omega⟩ g
  have ht := top_eq H ⟨j / 64, by omega⟩ g
  simp only at hs hn ht
  simp only [weight, valueCols, hs, hn, ht, H.vOld, H.vsCol, H.vNew, H.vsRow]
  rfl

end Chain

end Cert.KernelIdeal.Body
-- ==== Proof.Attn.Entry.lean ====
module

public import proofs.«01_k».proof.Proof.Gen.KernelIdeal.Frame
public import Idealize.ShloMosaic.Lib.Pipeline.ValueKit
public import Idealize.ShloMosaic.Lib.Pointwise
public import Idealize.ShloMosaic.Lib.StableHlo.ReadAt
public import proofs.«01_k».proof.Proof.Attn.Values

@[expose] public section

set_option maxRecDepth 16384

noncomputable section

open Idealize.ShloMosaic Idealize.ShloMosaic.TcCoe Idealize.SL.Sem
open Idealize.ShloMosaic.ValueIdx hiding ix1 ix2 ix3 ix4

namespace Cert.KernelIdeal.Entry
open Cert.KernelIdeal Cert.KernelIdeal.Gen

variable (m : (ℓ : Loc nD τ sig) → Buf (Elt Ideal) ℓ) (c : Dev nD)
/-- The keys the region reads: the code cache with the token axis last and head and channel as one axis. -/
theorem keys (b : Fin 64) (j : Fin 512) (t : Fin 2048) :
    V m c main_v1 (ix3 b j t : S64x512x2048.Idx)
      = m ((c : Thread nD τ).loc main_arg3) (ix4 b t ⟨j / 64, by omega⟩ ⟨j % 64, by omega⟩ : S64x2048x8x64.Idx) := by
  simp only [V, V0, List.flatten_cons, List.flatten_nil, List.append_nil]
  after_reads_at

/-- The values the region reads: the code cache with the token axis last and head and channel as one axis. -/
theorem values (b : Fin 64) (j : Fin 512) (t : Fin 2048) :
    V m c main_v3 (ix3 b j t : S64x512x2048.Idx)
      = m ((c : Thread nD τ).loc main_arg5) (ix4 b t ⟨j / 64, by omega⟩ ⟨j % 64, by omega⟩ : S64x2048x8x64.Idx) := by
  simp only [V, V0, List.flatten_cons, List.flatten_nil, List.append_nil]
  after_reads_at

/-- The new token's row, head and channel as one axis. -/
theorem newKeys (b : Fin 64) (j : Fin 512) :
    V m c main_v103 (ix3 b 0 j : S64x1x512.Idx)
      = m ((c : Thread nD τ).loc main_arg1) (ix4 b 0 ⟨j / 64, by omega⟩ ⟨j % 64, by omega⟩ : S64x1x8x64.Idx) := by
  simp only [V, V0, List.flatten_cons, List.flatten_nil, List.append_nil]
  after_reads_at

/-- The new token's row, head and channel as one axis. -/
theorem newValues (b : Fin 64) (j : Fin 512) :
    V m c main_v104 (ix3 b 0 j : S64x1x512.Idx)
      = m ((c : Thread nD τ).loc main_arg2) (ix4 b 0 ⟨j / 64, by omega⟩ ⟨j % 64, by omega⟩ : S64x1x8x64.Idx) := by
  simp only [V, V0, List.flatten_cons, List.flatten_nil, List.append_nil]
  after_reads_at

/-- The head scales repeated over the channels, as a column. -/
theorem keyScales (j : Fin 512) :
    V m c main_v98 (ix2 j 0 : S512x1.Idx)
      = m ((c : Thread nD τ).loc main_arg4) (ix1 ⟨j / 64, by omega⟩ : S8.Idx) := by
  simp only [V, V0, List.flatten_cons, List.flatten_nil, List.append_nil]
  after_reads_at

/-- The head scales repeated over the channels, as a column. -/
theorem valueScales (j : Fin 512) :
    V m c main_v102 (ix2 j 0 : S512x1.Idx)
      = m ((c : Thread nD τ).loc main_arg6) (ix1 ⟨j / 64, by omega⟩ : S8.Idx) := by
  simp only [V, V0, List.flatten_cons, List.flatten_nil, List.append_nil]
  after_reads_at

/-- A row of the scale table. -/
theorem rowKeyInv (j : Fin 512) :
    V m c main_v94 (ix2 0 j : S4x512.Idx)
      = V m c main_v49 (ix1 ⟨j / 64, by omega⟩ : S8.Idx) := by
  simp only [V, V0, List.flatten_cons, List.flatten_nil, List.append_nil]
  after_reads_at
  after_reads_at

/-- A row of the scale table. -/
theorem rowValueInv (j : Fin 512) :
    V m c main_v94 (ix2 1 j : S4x512.Idx)
      = V m c main_v81 (ix1 ⟨j / 64, by omega⟩ : S8.Idx) := by
  simp only [V, V0, List.flatten_cons, List.flatten_nil, List.append_nil]
  after_reads_at
  after_reads_at

/-- A row of the scale table. -/
theorem rowKeyScale (j : Fin 512) :
    V m c main_v94 (ix2 2 j : S4x512.Idx)
      = m ((c : Thread nD τ).loc main_arg4) (ix1 ⟨j / 64, by omega⟩ : S8.Idx) := by
  simp only [V, V0, List.flatten_cons, List.flatten_nil, List.append_nil]
  after_reads_at
  after_reads_at

/-- A row of the scale table. -/
theorem rowValueScale (j : Fin 512) :
    V m c main_v94 (ix2 3 j : S4x512.Idx)
      = m ((c : Thread nD τ).loc main_arg6) (ix1 ⟨j / 64, by omega⟩ : S8.Idx) := by
  simp only [V, V0, List.flatten_cons, List.flatten_nil, List.append_nil]
  after_reads_at
  after_reads_at

/-- The block diagonal queries: row r holds query r / 8 of head r % 8, zero off that head's channels. -/
theorem queries (b : Fin 64) (r : Fin 32) (j : Fin 512) :
    V m c main_v17 (ix3 b r j : S64x32x512.Idx)
      = if (r : ℕ) % 8 = j / 64 then m ((c : Thread nD τ).loc main_arg0) (ix3 b 0 ⟨r % 8 * 256 + r / 8 * 64 + j % 64, by omega⟩ : S64x1x2048.Idx) else (0 : EReal) := by
  simp only [V, V0, List.flatten_cons, List.flatten_nil, List.append_nil]
  after_reads_at
  have hn : ∀ a b : Fin 8, (IntOp.cmpi CmpIPredicate.eq (IntOp.addi (BitVec.ofNat 32 a) 0#32) (BitVec.ofNat 32 b)).toNat = if (a : ℕ) = b then 1 else 0 := by decide +kernel
  have key : (FloatOps.uitofp FTy.bf16 (IntOp.cmpi CmpIPredicate.eq (IntOp.addi (BitVec.ofNat 32 (r % 8)) 0#32) (BitVec.ofNat 32 (j / 64))) : Ideal .bf16)
      = if (r : ℕ) % 8 = j / 64 then (1 : EReal) else 0 := by
    have h := hn ⟨r % 8, by omega⟩ ⟨j / 64, by omega⟩
    simp only at h
    change (((IntOp.cmpi CmpIPredicate.eq (IntOp.addi (BitVec.ofNat 32 (r % 8)) 0#32) (BitVec.ofNat 32 (j / 64))).toNat : ℝ) : EReal) = _
    rw [h]; split <;> simp
  refine (congrArg (fun z : EReal => _ * z) key).trans ?_
  split
  · exact mul_one _
  · exact mul_zero _

/-- The inverse scale of a head, 2 ^ (1 - e) by the count of the powers of two. -/
theorem keyInverse (h : Fin 8) :
    V m c main_v49 (ix1 h : S8.Idx)
      = Attn.inverse (FloatOps.absf (F := Ideal) (φ := .f32) (m ((c : Thread nD τ).loc main_arg4) (ix1 h : S8.Idx))) := by
  simp only [V, V0, List.flatten_cons, List.flatten_nil, List.append_nil]
  after_reads_at
  rfl

/-- The inverse scale of a head, 2 ^ (1 - e) by the count of the powers of two. -/
theorem valueInverse (h : Fin 8) :
    V m c main_v81 (ix1 h : S8.Idx)
      = Attn.inverse (FloatOps.absf (F := Ideal) (φ := .f32) (m ((c : Thread nD τ).loc main_arg6) (ix1 h : S8.Idx))) := by
  simp only [V, V0, List.flatten_cons, List.flatten_nil, List.append_nil]
  after_reads_at
  rfl

end Cert.KernelIdeal.Entry
-- ==== Proof.Attn.Final.lean ====
module

public import proofs.«01_k».proof.Proof.Attn.Body
public import proofs.«01_k».proof.Proof.Attn.Entry

@[expose] public section

set_option maxRecDepth 16384

noncomputable section

open Idealize.ShloMosaic Idealize.ShloMosaic.TcCoe Idealize.SL.Sem

namespace Cert.KernelIdeal.Final
open Cert.KernelIdeal Cert.KernelIdeal.Gen

variable (m : (ℓ : Loc nD τ sig) → Buf (Elt Ideal) ℓ) (c : Dev nD)

/-- The blocks the windows take at each point: batch t, or the whole array. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![0, 0] ∧ win0_6.index t = ![0, 0]
    ∧ win0_7.index t = ![0, 0] ∧ win0_8.index t = ![t.val, 0, 0] ∧ win0_9.index t = ![t.val, 0, 0] ∧ win0_10.index t = ![t.val, 0, 0] :=
  (by decide +kernel : ∀ t : Fin grid0.N, _)

theorem lt (t : Fin cfg0.N) : t.val < 64 := t.isLt

abbrev argX : FVec Ideal S64x1x2048 .bf16 := m ((c : Thread nD τ).loc main_arg0)
abbrev argK : FVec Ideal S64x1x8x64 .bf16 := m ((c : Thread nD τ).loc main_arg1)
abbrev argV : FVec Ideal S64x1x8x64 .bf16 := m ((c : Thread nD τ).loc main_arg2)
abbrev argKC : FVec Ideal S64x2048x8x64 .fp8e4m3 := m ((c : Thread nD τ).loc main_arg3)
abbrev argKS : FVec Ideal S8 .f32 := m ((c : Thread nD τ).loc main_arg4)
abbrev argVC : FVec Ideal S64x2048x8x64 .fp8e4m3 := m ((c : Thread nD τ).loc main_arg5)
abbrev argVS : FVec Ideal S8 .f32 := m ((c : Thread nD τ).loc main_arg6)

/-- Each input block at its own indices, in terms of the array it is taken from. -/
theorem blk0 (t : Fin cfg0.N) (r : Fin 32) (j : Fin 512) :
    iblk m c 0 t (ix3 0 r j : S1x32x512.Idx) = V m c main_v17 (ix3 ⟨t.val, lt t⟩ r j : S64x32x512.Idx) := by
  blk_ext [iblk, idx t]
theorem blk1 (t : Fin cfg0.N) (j : Fin 512) :
    iblk m c 1 t (ix3 0 0 j : S1x1x512.Idx) = V m c main_v103 (ix3 ⟨t.val, lt t⟩ 0 j : S64x1x512.Idx) := by
  blk_ext [iblk, idx t]
theorem blk2 (t : Fin cfg0.N) (j : Fin 512) :
    iblk m c 2 t (ix3 0 0 j : S1x1x512.Idx) = V m c main_v104 (ix3 ⟨t.val, lt t⟩ 0 j : S64x1x512.Idx) := by
  blk_ext [iblk, idx t]
theorem blk3 (t : Fin cfg0.N) (j : Fin 512) (s : Fin 2048) :
    iblk m c 3 t (ix3 0 j s : S1x512x2048.Idx) = V m c main_v1 (ix3 ⟨t.val, lt t⟩ j s : S64x512x2048.Idx) := by
  blk_ext [iblk, idx t]
theorem blk4 (t : Fin cfg0.N) (j : Fin 512) (s : Fin 2048) :
    iblk m c 4 t (ix3 0 j s : S1x512x2048.Idx) = V m c main_v3 (ix3 ⟨t.val, lt t⟩ j s : S64x512x2048.Idx) := by
  blk_ext [iblk, idx t]
theorem blk5 (t : Fin cfg0.N) (j : Fin 512) :
    iblk m c 5 t (ix2 j 0 : S512x1.Idx) = V m c main_v98 (ix2 j 0 : S512x1.Idx) := by
  blk_ext [iblk, idx t]
theorem blk6 (t : Fin cfg0.N) (j : Fin 512) :
    iblk m c 6 t (ix2 j 0 : S512x1.Idx) = V m c main_v102 (ix2 j 0 : S512x1.Idx) := by
  blk_ext [iblk, idx t]
theorem blk7 (t : Fin cfg0.N) (r : Fin 4) (j : Fin 512) :
    iblk m c 7 t (ix2 r j : S4x512.Idx) = V m c main_v94 (ix2 r j : S4x512.Idx) := by
  blk_ext [iblk, idx t]

/-- The new key codes at each point. -/
theorem keyCode_eq (t : Fin cfg0.N) (j : Fin 512) :
    k0_pay5 (F := Ideal) (View.ld (iblk m c 7 t) r0_1) (iblk m c 1 t) (ix2 0 j)
      = Attn.code (argK m c) (argKS m c) ⟨t.val, lt t⟩ ⟨j / 64, by omega⟩ ⟨j % 64, by omega⟩ := by
  refine (Body.keyCode _ _ j).trans ?_
  have h1 := (Body.row0 (iblk m c 7 t) j).trans ((blk7 m c t 0 j).trans ((Entry.rowKeyInv m c j).trans (Entry.keyInverse m c _)))
  have h2 := (blk1 m c t j).trans (Entry.newKeys m c _ j)
  exact congrArg₂ (fun a b : EReal => min (Ideal.ofBits FTy.f32 1138753536#32) (max (Ideal.ofBits FTy.f32 3286237184#32) (a * b))) h2 h1

/-- The new value codes at each point. -/
theorem valueCode_eq (t : Fin cfg0.N) (j : Fin 512) :
    k0_pay6 (F := Ideal) (View.ld (iblk m c 7 t) r0_2) (iblk m c 2 t) (ix2 0 j)
      = Attn.code (argV m c) (argVS m c) ⟨t.val, lt t⟩ ⟨j / 64, by omega⟩ ⟨j % 64, by omega⟩ := by
  refine (Body.valueCode _ _ j).trans ?_
  have h1 := (Body.row1 (iblk m c 7 t) j).trans ((blk7 m c t 1 j).trans ((Entry.rowValueInv m c j).trans (Entry.valueInverse m c _)))
  have h2 := (blk2 m c t j).trans (Entry.newValues m c _ j)
  exact congrArg₂ (fun a b : EReal => min (Ideal.ofBits FTy.f32 1138753536#32) (max (Ideal.ofBits FTy.f32 3286237184#32) (a * b))) h2 h1

/-- The operands of the body's products at each point. -/
theorem holds (t : Fin cfg0.N) :
    Body.Holds (argX m c) (argK m c) (argV m c) (argKC m c) (argVC m c) (argKS m c) (argVS m c) ⟨t.val, lt t⟩
      (k0_pay2 (F := Ideal) (iblk m c 0 t)) (k0_pay3 (F := Ideal) (View.ld (iblk m c 7 t) r0_3)) (k0_pay4 (F := Ideal) (View.ld (iblk m c 7 t) r0_4))
      (k0_pay5 (F := Ideal) (View.ld (iblk m c 7 t) r0_1) (iblk m c 1 t)) (k0_pay6 (F := Ideal) (View.ld (iblk m c 7 t) r0_2) (iblk m c 2 t))
      (iblk m c 3 t) (iblk m c 4 t) (iblk m c 5 t) (iblk m c 6 t) where
  q r j := (Body.queryRows _ r j).trans ((blk0 m c t r j).trans (Entry.queries m c _ r j))
  ksRow j := (Body.keyScaleRow _ j).trans ((Body.row2 _ j).trans ((blk7 m c t 2 j).trans (Entry.rowKeyScale m c j)))
  vsRow j := (Body.valueScaleRow _ j).trans ((Body.row3 _ j).trans ((blk7 m c t 3 j).trans (Entry.rowValueScale m c j)))
  kNew j := keyCode_eq m c t j
  vNew j := valueCode_eq m c t j
  kOld j s := (blk3 m c t j s).trans (Entry.keys m c _ j s)
  vOld j s := (blk4 m c t j s).trans (Entry.values m c _ j s)
  ksCol j := (blk5 m c t j).trans (Entry.keyScales m c j)
  vsCol j := (blk6 m c t j).trans (Entry.valueScales m c j)

/-- Codes of one of the new token's arrays with head and channel as one axis. -/
def flatCodes (n : FVec Ideal S64x1x8x64 .bf16) (s : FVec Ideal S8 .f32) : FVec Ideal S64x1x512 .fp8e4m3 := fun i =>
  Attn.code n s (i 0) ⟨(i 2 : ℕ) / 64, by have : (i 2 : ℕ) < 512 := (i 2).isLt; omega⟩ ⟨(i 2 : ℕ) % 64, by omega⟩

/-- The attention output as the region writes it: sequence, query of the group, head and channel as one axis. -/
def flatOut : FVec Ideal S64x4x512 .bf16 := fun i =>
  Attn.attend (argX m c) (argK m c) (argV m c) (argKC m c) (argVC m c) (argKS m c) (argVS m c) (i 0)
    ⟨(i 2 : ℕ) / 64, by have : (i 2 : ℕ) < 512 := (i 2).isLt; omega⟩ (i 1) ⟨(i 2 : ℕ) % 64, by omega⟩

/-- The key codes after the region. -/
theorem final9 : (dats m 0 c).arrAt 9 cfg0.N = (flatCodes (argK m c) (argKS m c) : S64x1x512.Idx → _) := by
  refine (dats m 0 c).arrAt_eq_of_covers 9 _ (by decide +kernel) fun t _ y => ?_
  blk_simp
  rw [after0_9]
  frame_out
  idx_vars y
  have he : ((View.whole main_v105_1).slice (win0_9.rect t)).emb (ix3 y0 y1 y2 : S1x1x512.Idx) = (ix3 ⟨t.val, lt t⟩ 0 y2 : S64x1x512.Idx) := by
    blk_ext [idx t]
  obtain rfl : y0 = 0 := Subsingleton.elim _ _
  obtain rfl : y1 = 0 := Subsingleton.elim _ _
  refine Eq.trans ?_ (congrArg (flatCodes (argK m c) (argKS m c)) he).symm
  exact (Body.keyBlock _ _ y2).trans (keyCode_eq m c t y2)

section Whole
variable (x0 : Vec Ideal S1x32x512 .bf16) (x1 x2 : Vec Ideal S1x1x512 .bf16) (x3 x4 : Vec Ideal S1x512x2048 .fp8e4m3) (x5 x6 : Vec Ideal S512x1 .bf16) (x7 : Vec Ideal S4x512 .f32)

/-- The whole-array loads and the values the output blocks share, in terms of the blocks. -/
theorem whole0 : View.ld (Val := Elt Ideal) (e' := .bf16) x0 r0_0 = x0 := View.ld_unit_lit _ _ (by intro a; fin_cases a <;> rfl)
theorem whole5 : View.ld (Val := Elt Ideal) (e' := .bf16) x1 r0_5 = x1 := View.ld_unit_lit _ _ (by intro a; fin_cases a <;> rfl)
theorem whole6 : View.ld (Val := Elt Ideal) (e' := .fp8e4m3) x3 r0_6 = x3 := View.ld_unit_lit _ _ (by intro a; fin_cases a <;> rfl)
theorem whole7 : View.ld (Val := Elt Ideal) (e' := .bf16) x5 r0_7 = x5 := View.ld_unit_lit _ _ (by intro a; fin_cases a <;> rfl)
theorem pay22 : k0_pay22 x0 x1 x2 x3 x4 x5 x6 x7 = k0_pay2 x0 := by unfold k0_pay22; rw [whole0]
theorem pay23 : k0_pay23 x0 x1 x2 x3 x4 x5 x6 x7 = k0_pay3 (View.ld x7 r0_3) := rfl
theorem pay24 : k0_pay24 x0 x1 x2 x3 x4 x5 x6 x7 = k0_pay5 (View.ld x7 r0_1) x1 := by unfold k0_pay24; rw [whole5]
theorem pay25 : k0_pay25 x0 x1 x2 x3 x4 x5 x6 x7 = k0_pay6 (View.ld x7 r0_2) x2 := by unfold k0_pay25; rw [whole5]
end Whole

/-- The value codes after the region. -/
theorem final10 : (dats m 0 c).arrAt 10 cfg0.N = (flatCodes (argV m c) (argVS m c) : S64x1x512.Idx → _) := by
  refine (dats m 0 c).arrAt_eq_of_covers 10 _ (by decide +kernel) fun t _ y => ?_
  blk_simp
  rw [after0_10]
  frame_out
  idx_vars y
  have he : ((View.whole main_v105_2).slice (win0_10.rect t)).emb (ix3 y0 y1 y2 : S1x1x512.Idx) = (ix3 ⟨t.val, lt t⟩ 0 y2 : S64x1x512.Idx) := by
    blk_ext [idx t]
  obtain rfl : y0 = 0 := Subsingleton.elim _ _
  obtain rfl : y1 = 0 := Subsingleton.elim _ _
  refine Eq.trans ?_ (congrArg (flatCodes (argV m c) (argVS m c)) he).symm
  rw [pay25]
  exact (Body.valueBlock _ y2).trans (valueCode_eq m c t y2)

/-- The output array after the region. -/
theorem final8 : (dats m 0 c).arrAt 8 cfg0.N = (flatOut m c : S64x4x512.Idx → _) := by
  refine (dats m 0 c).arrAt_eq_of_covers 8 _ (by decide +kernel) fun t _ y => ?_
  blk_simp
  rw [after0_8]
  frame_out
  idx_vars y
  have he : ((View.whole main_v105_0).slice (win0_8.rect t)).emb (ix3 y0 y1 y2 : S1x4x512.Idx) = (ix3 ⟨t.val, lt t⟩ y1 y2 : S64x4x512.Idx) := by
    blk_ext [idx t]
  obtain rfl : y0 = 0 := Subsingleton.elim _ _
  refine Eq.trans ?_ (congrArg (flatOut m c) he).symm
  rw [pay22, pay23, pay24, pay25]
  exact Body.attend_eq (holds m c t) y1 y2

end Cert.KernelIdeal.Final
-- ==== Proof.Attn.Tail.lean ====
module

public import proofs.«01_k».proof.Proof.Attn.Final
public import Idealize.ShloMosaic.Lib.StableHlo.ReadAt

@[expose] public section

set_option maxRecDepth 16384

noncomputable section

open Idealize.ShloMosaic Idealize.ShloMosaic.TcCoe Idealize.SL.Sem

namespace Cert.KernelIdeal.Tail
open Cert.KernelIdeal Cert.KernelIdeal.Gen Cert.KernelIdeal.Final

/-- The reshapes and the transpose after the region, read at one element. -/
theorem ops108 (σ : Valuation τ sig (Elt Ideal)) (b : Fin 64) (n : Fin 2048) :
    StableHlo.after hostOps1 σ (Proc.devRef .tc main_v108) (ix3 b 0 n : S64x1x2048.Idx)
      = σ (Proc.devRef .tc main_v105_0) (ix3 b ⟨n / 64 % 4, by omega⟩ ⟨n / 256 * 64 + n % 64, by omega⟩ : S64x4x512.Idx) := by
  after_reads_at

theorem ops109 (σ : Valuation τ sig (Elt Ideal)) (b : Fin 64) (h : Fin 8) (d : Fin 64) :
    StableHlo.after hostOps1 σ (Proc.devRef .tc main_v109) (ix4 b 0 h d : S64x1x8x64.Idx)
      = σ (Proc.devRef .tc main_v105_1) (ix3 b 0 ⟨h * 64 + d, by omega⟩ : S64x1x512.Idx) := by
  after_reads_at

theorem ops110 (σ : Valuation τ sig (Elt Ideal)) (b : Fin 64) (h : Fin 8) (d : Fin 64) :
    StableHlo.after hostOps1 σ (Proc.devRef .tc main_v110) (ix4 b 0 h d : S64x1x8x64.Idx)
      = σ (Proc.devRef .tc main_v105_2) (ix3 b 0 ⟨h * 64 + d, by omega⟩ : S64x1x512.Idx) := by
  after_reads_at

variable (m : (ℓ : Loc nD τ sig) → Buf (Elt Ideal) ℓ) (c : Dev nD)

/-- The buffers when the region has ended. -/
abbrev env : Valuation τ sig (Elt Ideal) := Pipeline.withArrays spec0 c (V0 m c) fun w => (dats m 0 c).arrAt w cfg0.N

theorem inj0 : Function.Injective (Pipeline.arrRef spec0) := by decide

/-- A code array with head and channel as two axes. -/
theorem flat_codes (n : FVec Ideal S64x1x8x64 .bf16) (s : FVec Ideal S8 .f32) (b : Fin 64) (h : Fin 8) (d : Fin 64) :
    flatCodes n s (ix3 b 0 ⟨h * 64 + d, by omega⟩) = Attn.codes n s (ix4 b 0 h d) := by
  have h1 : ((h : ℕ) * 64 + d) / 64 = h := by omega
  have h2 : ((h : ℕ) * 64 + d) % 64 = d := by omega
  change Attn.code n s b ⟨((h : ℕ) * 64 + d) / 64, _⟩ ⟨((h : ℕ) * 64 + d) % 64, _⟩ = Attn.code n s b h d
  simp only [h1, h2]

/-- The attention output as returned. -/
theorem out108 : Pipeline.afterTail₀ cfgs (dats m) 0 (V0 m) [hostOps1] c main_v108
    = Attn.output (argX m c) (argK m c) (argV m c) (argKC m c) (argVC m c) (argKS m c) (argVS m c) := by
  funext i
  change S64x1x2048.Idx at i
  obtain ⟨b, z, n, rfl⟩ : ∃ (b : Fin 64) (z : Fin 1) (n : Fin 2048), i = ix3 b z n := ⟨i 0, i 1, i 2, ValueIdx.eq_ix3 i⟩
  obtain rfl : z = 0 := Subsingleton.elim _ _
  unfold Pipeline.afterTail₀
  simp only [List.flatten_cons, List.flatten_nil, List.append_nil]
  refine (ops108 (env m c) b n).trans ?_
  refine (congrFun ((Pipeline.withArrays_arr spec0 inj0 c (V0 m c) (fun w => (dats m 0 c).arrAt w cfg0.N) 8).trans (final8 m c)) _).trans ?_
  have h1 : ((n : ℕ) / 256 * 64 + n % 64) / 64 = n / 256 := by omega
  have h2 : ((n : ℕ) / 256 * 64 + n % 64) % 64 = n % 64 := by omega
  change Attn.attend _ _ _ _ _ _ _ b ⟨((n : ℕ) / 256 * 64 + n % 64) / 64, _⟩ _ ⟨((n : ℕ) / 256 * 64 + n % 64) % 64, _⟩ = _
  simp only [h1, h2]
  rfl

/-- The key codes as returned. -/
theorem out109 : Pipeline.afterTail₀ cfgs (dats m) 0 (V0 m) [hostOps1] c main_v109 = Attn.codes (argK m c) (argKS m c) := by
  funext i
  change S64x1x8x64.Idx at i
  obtain ⟨b, z, h, d, rfl⟩ : ∃ (b : Fin 64) (z : Fin 1) (h : Fin 8) (d : Fin 64), i = ix4 b z h d := ⟨i 0, i 1, i 2, i 3, ValueIdx.eq_ix4 i⟩
  obtain rfl : z = 0 := Subsingleton.elim _ _
  unfold Pipeline.afterTail₀
  simp only [List.flatten_cons, List.flatten_nil, List.append_nil]
  refine (ops109 (env m c) b h d).trans ?_
  exact (congrFun ((Pipeline.withArrays_arr spec0 inj0 c (V0 m c) (fun w => (dats m 0 c).arrAt w cfg0.N) 9).trans (final9 m c)) _).trans
    (flat_codes (argK m c) (argKS m c) b h d)

/-- The value codes as returned. -/
theorem out110 : Pipeline.afterTail₀ cfgs (dats m) 0 (V0 m) [hostOps1] c main_v110 = Attn.codes (argV m c) (argVS m c) := by
  funext i
  change S64x1x8x64.Idx at i
  obtain ⟨b, z, h, d, rfl⟩ : ∃ (b : Fin 64) (z : Fin 1) (h : Fin 8) (d : Fin 64), i = ix4 b z h d := ⟨i 0, i 1, i 2, i 3, ValueIdx.eq_ix4 i⟩
  obtain rfl : z = 0 := Subsingleton.elim _ _
  unfold Pipeline.afterTail₀
  simp only [List.flatten_cons, List.flatten_nil, List.append_nil]
  refine (ops110 (env m c) b h d).trans ?_
  exact (congrFun ((Pipeline.withArrays_arr spec0 inj0 c (V0 m c) (fun w => (dats m 0 c).arrAt w cfg0.N) 10).trans (final10 m c)) _).trans
    (flat_codes (argV m c) (argVS m c) b h d)

/-- The run: the five results as functions of the arguments, and the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v108) = Attn.output (argX m c) (argK m c) (argV m c) (argKC m c) (argVC m c) (argKS m c) (argVS m c)
      ∧ r.2.mem ((c.tc : Thread nD τ).loc main_v109) = Attn.codes (argK m c) (argKS m c)
      ∧ r.2.mem ((c.tc : Thread nD τ).loc main_arg4) = argKS m c
      ∧ r.2.mem ((c.tc : Thread nD τ).loc main_v110) = Attn.codes (argV m c) (argVS m c)
      ∧ r.2.mem ((c.tc : Thread nD τ).loc main_arg6) = argVS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run _ _ _).mono (fun r h c => ?_) (θ_run_and (unchanged m g) (run_main m g))
  obtain ⟨hu, hf⟩ := h
  obtain ⟨a0, a1, a2, a3, a4, a5, a6⟩ := hu c
  exact ⟨((hf c).2 main_v108 (Pipeline.mem_restRefs_of main_v108 (by decide) (by decide))).trans (out108 m c),
    ((hf c).2 main_v109 (Pipeline.mem_restRefs_of main_v109 (by decide) (by decide))).trans (out109 m c), a4,
    ((hf c).2 main_v110 (Pipeline.mem_restRefs_of main_v110 (by decide) (by decide))).trans (out110 m c), a6, a0, a1, a2, a3, a4, a5, a6⟩

end Cert.KernelIdeal.Tail
-- ==== Proof.Attn.RefEntry.lean ====
module

public import proofs.«01_k».proof.Proof.Gen.ReferenceIdeal.Frame
public import proofs.«01_k».proof.Proof.Attn.Values
public import Idealize.ShloMosaic.Lib.StableHlo.ReadAt

@[expose] public section

set_option maxRecDepth 16384

noncomputable section

open Idealize.ShloMosaic Idealize.ShloMosaic.TcCoe Idealize.SL.Sem

namespace Cert.ReferenceIdeal.Entry
open Cert.ReferenceIdeal Cert.ReferenceIdeal.Gen

/-- The tables of the reference: the powers of two, and the values between neighbours. -/
theorem lit0_eq : ∀ x : Fin 254, lit0 x = Attn.edgeWord x := by decide +kernel
theorem lit1_eq : ∀ x : Fin 254, lit1 x = Attn.edgeWord (x + 1) := by decide +kernel
theorem lit2_eq : ∀ x : Fin 254, lit2 x = Attn.inverseWord (BitVec.ofNat 32 (x + 1)) := by decide +kernel
theorem lit3_eq : ∀ x : Fin 254, lit3 x = Attn.edgeWord x := by decide +kernel
theorem lit4_eq : ∀ x : Fin 254, lit4 x = Attn.edgeWord (x + 1) := by decide +kernel
theorem lit5_eq : ∀ x : Fin 254, lit5 x = Attn.inverseWord (BitVec.ofNat 32 (x + 1)) := by decide +kernel
theorem row_eq (x : Fin 254) : S254.rowMajor (ix1 x : S254.Idx) = x :=
  Fin.ext ((by decide +kernel : ∀ x : Fin 254, (S254.rowMajor (ix1 x : S254.Idx)).val = x.val) x)

variable (m : (ℓ : Loc nD τ sig) → Buf (Elt Ideal) ℓ) (c : Dev nD)

/-- The inverse of the keys' scale, one per element. -/
theorem keyInverse (h : Fin 8) (d : Fin 64) :
    V m c main_v46 (ix2 h d : S8x64.Idx)
      = Attn.inverse (FloatOps.absf (F := Ideal) (φ := .f32) (m ((c : Thread nD τ).loc main_arg4) (ix1 h : S8.Idx))) := by
  simp only [V, V0, List.flatten_cons, List.flatten_nil, List.append_nil]
  after_reads_at
  rw [← Attn.table_eq]
  simp only [row_eq, lit0_eq, lit1_eq, lit2_eq]
  rfl

/-- The inverse of the values' scale, one per element. -/
theorem valueInverse (h : Fin 8) (d : Fin 64) :
    V m c main_v48 (ix2 h d : S8x64.Idx)
      = Attn.inverse (FloatOps.absf (F := Ideal) (φ := .f32) (m ((c : Thread nD τ).loc main_arg6) (ix1 h : S8.Idx))) := by
  simp only [V, V0, List.flatten_cons, List.flatten_nil, List.append_nil]
  after_reads_at
  rw [← Attn.table_eq]
  simp only [row_eq, lit3_eq, lit4_eq, lit5_eq]
  rfl

/-- The queries with head, group query and channel as three axes. -/
theorem queries (b : Fin 64) (h : Fin 8) (g : Fin 4) (e : Fin 64) :
    V m c main_v6 (ix5 b 0 h g e : S64x1x8x4x64.Idx)
      = m ((c : Thread nD τ).loc main_arg0) (ix3 b 0 ⟨h * 256 + g * 64 + e, by omega⟩ : S64x1x2048.Idx) := by
  simp only [V, V0, List.flatten_cons, List.flatten_nil, List.append_nil]
  after_reads_at

end Cert.ReferenceIdeal.Entry
-- ==== Proof.Attn.RefFinal.lean ====
module

public import proofs.«01_k».proof.Proof.Attn.RefEntry

@[expose] public section

set_option maxRecDepth 16384

noncomputable section

open Idealize.ShloMosaic Idealize.ShloMosaic.TcCoe Idealize.SL.Sem

namespace Cert.ReferenceIdeal.Final
open Cert.ReferenceIdeal Cert.ReferenceIdeal.Gen

variable (m : (ℓ : Loc nD τ sig) → Buf (Elt Ideal) ℓ) (c : Dev nD)

abbrev argX : FVec Ideal S64x1x2048 .bf16 := m ((c : Thread nD τ).loc main_arg0)
abbrev argK : FVec Ideal S64x1x8x64 .bf16 := m ((c : Thread nD τ).loc main_arg1)
abbrev argV : FVec Ideal S64x1x8x64 .bf16 := m ((c : Thread nD τ).loc main_arg2)
abbrev argKC : FVec Ideal S64x2048x8x64 .fp8e4m3 := m ((c : Thread nD τ).loc main_arg3)
abbrev argKS : FVec Ideal S8 .f32 := m ((c : Thread nD τ).loc main_arg4)
abbrev argVC : FVec Ideal S64x2048x8x64 .fp8e4m3 := m ((c : Thread nD τ).loc main_arg5)
abbrev argVS : FVec Ideal S8 .f32 := m ((c : Thread nD τ).loc main_arg6)

/-- Every window takes its whole array. -/
theorem idx : ∀ t : Fin cfg0.N, win0_0.index t = ![0, 0, 0, 0] ∧ win0_1.index t = ![0, 0, 0, 0] ∧ win0_2.index t = ![0, 0]
    ∧ win0_3.index t = ![0, 0] ∧ win0_4.index t = ![0, 0, 0, 0] ∧ win0_5.index t = ![0, 0, 0, 0] ∧ win0_6.index t = ![0, 0, 0, 0]
    ∧ win0_7.index t = ![0, 0, 0, 0] ∧ win0_8.index t = ![0, 0, 0, 0] ∧ win0_9.index t = ![0, 0, 0, 0] ∧ win0_10.index t = ![0, 0, 0, 0]
    ∧ win0_11.index t = ![0, 0, 0, 0] :=
  (by decide +kernel : ∀ t : Fin grid0.N, _)

/-- The quantiser's codes, as the body computes them, and the codes read back. -/
theorem keyRead (x : FVec Ideal S64x1x8x64 .bf16) (s : FVec Ideal S8x64 .f32) (b : Fin 64) (h : Fin 8) (d : Fin 64) :
    k0_pay5 (F := Ideal) x s (ix4 b 0 h d) = min (Ideal.ofBits FTy.f32 1138753536#32) (max (Ideal.ofBits FTy.f32 3286237184#32) (x (ix4 b 0 h d) * s (ix2 h d))) := by
  pointwise [k0_pay5, k0_pay3]
theorem valueRead (x : FVec Ideal S64x1x8x64 .bf16) (s : FVec Ideal S8x64 .f32) (b : Fin 64) (h : Fin 8) (d : Fin 64) :
    k0_pay6 (F := Ideal) x s (ix4 b 0 h d) = min (Ideal.ofBits FTy.f32 1138753536#32) (max (Ideal.ofBits FTy.f32 3286237184#32) (x (ix4 b 0 h d) * s (ix2 h d))) := by
  pointwise [k0_pay6, k0_pay4]
theorem keyCode (x : FVec Ideal S64x1x8x64 .bf16) (s : FVec Ideal S8x64 .f32) (b : Fin 64) (h : Fin 8) (d : Fin 64) :
    k0_pay3 (F := Ideal) x s (ix4 b 0 h d) = min (Ideal.ofBits FTy.f32 1138753536#32) (max (Ideal.ofBits FTy.f32 3286237184#32) (x (ix4 b 0 h d) * s (ix2 h d))) := by
  exact keyRead x s b h d
theorem valueCode (x : FVec Ideal S64x1x8x64 .bf16) (s : FVec Ideal S8x64 .f32) (b : Fin 64) (h : Fin 8) (d : Fin 64) :
    k0_pay4 (F := Ideal) x s (ix4 b 0 h d) = min (Ideal.ofBits FTy.f32 1138753536#32) (max (Ideal.ofBits FTy.f32 3286237184#32) (x (ix4 b 0 h d) * s (ix2 h d))) := by
  exact valueRead x s b h d
theorem keysRead (x : FVec Ideal S64x2048x8x64 .fp8e4m3) (b : Fin 64) (t : Fin 2048) (h : Fin 8) (d : Fin 64) :
    k0_pay1 (F := Ideal) x (ix4 b t h d) = x (ix4 b t h d) := by
  pointwise [k0_pay1]
theorem valuesRead (x : FVec Ideal S64x2048x8x64 .fp8e4m3) (b : Fin 64) (t : Fin 2048) (h : Fin 8) (d : Fin 64) :
    k0_pay2 (F := Ideal) x (ix4 b t h d) = x (ix4 b t h d) := by
  pointwise [k0_pay2]

/-- Each input block at its own indices. -/
theorem blk0 (t : Fin cfg0.N) (b : Fin 64) (h : Fin 8) (d : Fin 64) :
    iblk m c 0 t (ix4 b 0 h d : S64x1x8x64.Idx) = V m c main_arg1 (ix4 b 0 h d : S64x1x8x64.Idx) := by
  blk_ext [iblk, idx t]
theorem blk1 (t : Fin cfg0.N) (b : Fin 64) (h : Fin 8) (d : Fin 64) :
    iblk m c 1 t (ix4 b 0 h d : S64x1x8x64.Idx) = V m c main_arg2 (ix4 b 0 h d : S64x1x8x64.Idx) := by
  blk_ext [iblk, idx t]
theorem blk2 (t : Fin cfg0.N) (h : Fin 8) (d : Fin 64) :
    iblk m c 2 t (ix2 h d : S8x64.Idx) = V m c main_v46 (ix2 h d : S8x64.Idx) := by
  blk_ext [iblk, idx t]
theorem blk3 (t : Fin cfg0.N) (h : Fin 8) (d : Fin 64) :
    iblk m c 3 t (ix2 h d : S8x64.Idx) = V m c main_v48 (ix2 h d : S8x64.Idx) := by
  blk_ext [iblk, idx t]
theorem blk4 (t : Fin cfg0.N) (b : Fin 64) (s : Fin 2048) (h : Fin 8) (d : Fin 64) :
    iblk m c 4 t (ix4 b s h d : S64x2048x8x64.Idx) = V m c main_arg3 (ix4 b s h d : S64x2048x8x64.Idx) := by
  blk_ext [iblk, idx t]
theorem blk5 (t : Fin cfg0.N) (b : Fin 64) (s : Fin 2048) (h : Fin 8) (d : Fin 64) :
    iblk m c 5 t (ix4 b s h d : S64x2048x8x64.Idx) = V m c main_arg5 (ix4 b s h d : S64x2048x8x64.Idx) := by
  blk_ext [iblk, idx t]

/-- A code as the body computes it from the arguments. -/
theorem code_eq (x n : FVec Ideal S64x1x8x64 .bf16) (i : FVec Ideal S8x64 .f32) (s : FVec Ideal S8 .f32) (b : Fin 64) (h : Fin 8) (d : Fin 64)
    (h1 : x (ix4 b 0 h d) = n (ix4 b 0 h d)) (h2 : i (ix2 h d) = Attn.inverse (FloatOps.absf (F := Ideal) (φ := .f32) (s (ix1 h)))) :
    min (Ideal.ofBits FTy.f32 1138753536#32) (max (Ideal.ofBits FTy.f32 3286237184#32) (x (ix4 b 0 h d) * i (ix2 h d))) = Attn.codes n s (ix4 b 0 h d) := by
  rw [h1, h2]
  rfl

theorem key_codes (t : Fin cfg0.N) : k0_pay3 (F := Ideal) (iblk m c 0 t) (iblk m c 2 t) = (Attn.codes (argK m c) (argKS m c) : S64x1x8x64.Idx → EReal) := by
  funext i
  obtain ⟨b, z, h, d, rfl⟩ : ∃ (b : Fin 64) (z : Fin 1) (h : Fin 8) (d : Fin 64), i = ix4 b z h d := ⟨i 0, i 1, i 2, i 3, ValueIdx.eq_ix4 i⟩
  obtain rfl : z = 0 := Subsingleton.elim _ _
  exact (keyCode _ _ b h d).trans (code_eq _ _ _ _ b h d ((blk0 m c t b h d).trans (congrFun (V_main_arg1 m c) _)) ((blk2 m c t h d).trans (Entry.keyInverse m c h d)))

theorem value_codes (t : Fin cfg0.N) : k0_pay4 (F := Ideal) (iblk m c 1 t) (iblk m c 3 t) = (Attn.codes (argV m c) (argVS m c) : S64x1x8x64.Idx → EReal) := by
  funext i
  obtain ⟨b, z, h, d, rfl⟩ : ∃ (b : Fin 64) (z : Fin 1) (h : Fin 8) (d : Fin 64), i = ix4 b z h d := ⟨i 0, i 1, i 2, i 3, ValueIdx.eq_ix4 i⟩
  obtain rfl : z = 0 := Subsingleton.elim _ _
  exact (valueCode _ _ b h d).trans (code_eq _ _ _ _ b h d ((blk1 m c t b h d).trans (congrFun (V_main_arg2 m c) _)) ((blk3 m c t h d).trans (Entry.valueInverse m c h d)))

theorem keys_read (t : Fin cfg0.N) : k0_pay1 (F := Ideal) (iblk m c 4 t) = (argKC m c : S64x2048x8x64.Idx → EReal) := by
  funext i
  obtain ⟨b, s, h, d, rfl⟩ : ∃ (b : Fin 64) (s : Fin 2048) (h : Fin 8) (d : Fin 64), i = ix4 b s h d := ⟨i 0, i 1, i 2, i 3, ValueIdx.eq_ix4 i⟩
  exact (keysRead _ b s h d).trans ((blk4 m c t b s h d).trans (congrFun (V_main_arg3 m c) _))

theorem values_read (t : Fin cfg0.N) : k0_pay2 (F := Ideal) (iblk m c 5 t) = (argVC m c : S64x2048x8x64.Idx → EReal) := by
  funext i
  obtain ⟨b, s, h, d, rfl⟩ : ∃ (b : Fin 64) (s : Fin 2048) (h : Fin 8) (d : Fin 64), i = ix4 b s h d := ⟨i 0, i 1, i 2, i 3, ValueIdx.eq_ix4 i⟩
  exact (valuesRead _ b s h d).trans ((blk5 m c t b s h d).trans (congrFun (V_main_arg5 m c) _))

theorem key_read (t : Fin cfg0.N) : k0_pay5 (F := Ideal) (iblk m c 0 t) (iblk m c 2 t) = (Attn.codes (argK m c) (argKS m c) : S64x1x8x64.Idx → EReal) := by
  funext i
  obtain ⟨b, z, h, d, rfl⟩ : ∃ (b : Fin 64) (z : Fin 1) (h : Fin 8) (d : Fin 64), i = ix4 b z h d := ⟨i 0, i 1, i 2, i 3, ValueIdx.eq_ix4 i⟩
  obtain rfl : z = 0 := Subsingleton.elim _ _
  exact (keyRead _ _ b h d).trans (code_eq _ _ _ _ b h d ((blk0 m c t b h d).trans (congrFun (V_main_arg1 m c) _)) ((blk2 m c t h d).trans (Entry.keyInverse m c h d)))

theorem value_read (t : Fin cfg0.N) : k0_pay6 (F := Ideal) (iblk m c 1 t) (iblk m c 3 t) = (Attn.codes (argV m c) (argVS m c) : S64x1x8x64.Idx → EReal) := by
  funext i
  obtain ⟨b, z, h, d, rfl⟩ : ∃ (b : Fin 64) (z : Fin 1) (h : Fin 8) (d : Fin 64), i = ix4 b z h d := ⟨i 0, i 1, i 2, i 3, ValueIdx.eq_ix4 i⟩
  obtain rfl : z = 0 := Subsingleton.elim _ _
  exact (valueRead _ _ b h d).trans (code_eq _ _ _ _ b h d ((blk1 m c t b h d).trans (congrFun (V_main_arg2 m c) _)) ((blk3 m c t h d).trans (Entry.valueInverse m c h d)))

/-- The key codes after the region. -/
theorem final6 : (dats m 0 c).arrAt 6 cfg0.N = (Attn.codes (argK m c) (argKS m c) : S64x1x8x64.Idx → _) := by
  refine (dats m 0 c).arrAt_eq_of_after_last 6 t0_0 (by decide +kernel) _ fun j => ?_
  blk_simp
  rw [after0_6]
  frame_out
  exact congrFun (key_codes m c t0_0) j

/-- The value codes after the region. -/
theorem final7 : (dats m 0 c).arrAt 7 cfg0.N = (Attn.codes (argV m c) (argVS m c) : S64x1x8x64.Idx → _) := by
  refine (dats m 0 c).arrAt_eq_of_after_last 7 t0_0 (by decide +kernel) _ fun j => ?_
  blk_simp
  rw [after0_7]
  frame_out
  exact congrFun (value_codes m c t0_0) j

/-- The cached keys as read. -/
theorem final8 : (dats m 0 c).arrAt 8 cfg0.N = (argKC m c : S64x2048x8x64.Idx → _) := by
  refine (dats m 0 c).arrAt_eq_of_after_last 8 t0_0 (by decide +kernel) _ fun j => ?_
  blk_simp
  rw [after0_8]
  frame_out
  exact congrFun (keys_read m c t0_0) j

/-- The cached values as read. -/
theorem final9 : (dats m 0 c).arrAt 9 cfg0.N = (argVC m c : S64x2048x8x64.Idx → _) := by
  refine (dats m 0 c).arrAt_eq_of_after_last 9 t0_0 (by decide +kernel) _ fun j => ?_
  blk_simp
  rw [after0_9]
  frame_out
  exact congrFun (values_read m c t0_0) j

/-- The new key as read. -/
theorem final10 : (dats m 0 c).arrAt 10 cfg0.N = (Attn.codes (argK m c) (argKS m c) : S64x1x8x64.Idx → _) := by
  refine (dats m 0 c).arrAt_eq_of_after_last 10 t0_0 (by decide +kernel) _ fun j => ?_
  blk_simp
  rw [after0_10]
  frame_out
  exact congrFun (key_read m c t0_0) j

/-- The new value as read. -/
theorem final11 : (dats m 0 c).arrAt 11 cfg0.N = (Attn.codes (argV m c) (argVS m c) : S64x1x8x64.Idx → _) := by
  refine (dats m 0 c).arrAt_eq_of_after_last 11 t0_0 (by decide +kernel) _ fun j => ?_
  blk_simp
  rw [after0_11]
  frame_out
  exact congrFun (value_read m c t0_0) j

end Cert.ReferenceIdeal.Final
-- ==== Proof.Attn.RefTail.lean ====
module

public import proofs.«01_k».proof.Proof.Attn.RefFinal

@[expose] public section

set_option maxRecDepth 16384

noncomputable section

open Idealize.ShloMosaic Idealize.ShloMosaic.TcCoe Idealize.SL.Sem

namespace Cert.ReferenceIdeal.Tail
open Cert.ReferenceIdeal Cert.ReferenceIdeal.Gen Cert.ReferenceIdeal.Final

section Plain
variable (x : FVec Ideal S64x1x2048 .bf16) (kn vn : FVec Ideal S64x1x8x64 .bf16) (kc vc : FVec Ideal S64x2048x8x64 .fp8e4m3) (ks vs : FVec Ideal S8 .f32)

/-- A cached token's score with the factors in the reference's order. -/
theorem score_eq (b : Fin 64) (h : Fin 8) (g : Fin 4) (t : Fin 2048) :
    (∑ e : Fin 64, kc (ix4 b t h e) * ks (ix1 h) * Attn.query x b h g e) * Ideal.ofBits FTy.f32 1040187392#32 = Attn.score x kc ks b h g t := by
  unfold Attn.score
  refine congrArg (fun z : EReal => z * _) (Finset.sum_congr rfl fun e _ => ?_)
  exact mul_comm _ _

/-- The new token's score with the factors in the reference's order. -/
theorem newScore_eq (b : Fin 64) (h : Fin 8) (g : Fin 4) :
    (∑ e : Fin 64, Attn.codes kn ks (ix4 b 0 h e) * ks (ix1 h) * Attn.query x b h g e) * Ideal.ofBits FTy.f32 1040187392#32 = Attn.newScore x kn ks b h g := by
  unfold Attn.newScore
  refine congrArg (fun z : EReal => z * _) (Finset.sum_congr rfl fun e _ => ?_)
  exact mul_comm _ _

/-- The largest score over the joined tokens. -/
theorem top_eq (b : Fin 64) (h : Fin 8) (g : Fin 4) (f : Fin 2049 → EReal)
    (hf : ∀ t : Fin 2049, f t = (∑ e : Fin 64, (if ht : (t : ℕ) < 2048 then kc (ix4 b ⟨t, ht⟩ h e) else Attn.codes kn ks (ix4 b ⟨t - 2048, by omega⟩ h e))
        * ks (ix1 h) * Attn.query x b h g e) * Ideal.ofBits FTy.f32 1040187392#32) :
    Finset.fold max (Ideal.ofBits FTy.f32 4286578688#32) f Finset.univ = Attn.top x kn kc ks b h g := by
  rw [Attn.fold_max_succ]
  unfold Attn.top
  have h1 : ∀ t : Fin 2048, f ⟨t, by omega⟩ = Attn.score x kc ks b h g t := fun t => by
    rw [hf, ← score_eq]
    refine congrArg (fun z : EReal => z * _) (Finset.sum_congr rfl fun e _ => ?_)
    rw [dif_pos t.isLt]
  have h2 : f ⟨2048, by omega⟩ = Attn.newScore x kn ks b h g := by
    rw [hf, ← newScore_eq]
    refine congrArg (fun z : EReal => z * _) (Finset.sum_congr rfl fun e _ => ?_)
    rw [dif_neg (by simp)]
    rfl
  rw [h2]
  simp only [h1]

/-- The same, of the maximum as the program spells it. -/
theorem top_eq' (b : Fin 64) (h : Fin 8) (g : Fin 4) :
    Finset.fold max (Ideal.ofBits FTy.f32 4286578688#32)
      (fun t : Fin 2049 => (∑ e : Fin 64, (if ht : (t : ℕ) < 2048 then kc (ix4 b ⟨t, ht⟩ h e) else Attn.codes kn ks (ix4 b ⟨t - 2048, by omega⟩ h e))
        * ks (ix1 h) * Attn.query x b h g e) * Ideal.ofBits FTy.f32 1040187392#32) Finset.univ = Attn.top x kn kc ks b h g :=
  top_eq x kn kc ks b h g _ fun _ => rfl

/-- Plain softmax attention over the joined tokens. -/
theorem plain (b : Fin 64) (h : Fin 8) (g : Fin 4) (d : Fin 64) :
    Ideal.div
      ((∑ t : Fin 2048, Ideal.exp ((∑ e : Fin 64, kc (ix4 b t h e) * ks (ix1 h) * Attn.query x b h g e) * Ideal.ofBits FTy.f32 1040187392#32 - Finset.fold max (Ideal.ofBits FTy.f32 4286578688#32)
      (fun t : Fin 2049 => (∑ e : Fin 64, (if ht : (t : ℕ) < 2048 then kc (ix4 b ⟨t, ht⟩ h e) else Attn.codes kn ks (ix4 b ⟨t - 2048, by omega⟩ h e))
        * ks (ix1 h) * Attn.query x b h g e) * Ideal.ofBits FTy.f32 1040187392#32) Finset.univ) * (vc (ix4 b t h d) * vs (ix1 h)))
        + ∑ _t : Fin 1, Ideal.exp ((∑ e : Fin 64, Attn.codes kn ks (ix4 b 0 h e) * ks (ix1 h) * Attn.query x b h g e) * Ideal.ofBits FTy.f32 1040187392#32 - Finset.fold max (Ideal.ofBits FTy.f32 4286578688#32)
      (fun t : Fin 2049 => (∑ e : Fin 64, (if ht : (t : ℕ) < 2048 then kc (ix4 b ⟨t, ht⟩ h e) else Attn.codes kn ks (ix4 b ⟨t - 2048, by omega⟩ h e))
        * ks (ix1 h) * Attn.query x b h g e) * Ideal.ofBits FTy.f32 1040187392#32) Finset.univ) * (Attn.codes vn vs (ix4 b 0 h d) * vs (ix1 h)))
      ((∑ t : Fin 2048, Ideal.exp ((∑ e : Fin 64, kc (ix4 b t h e) * ks (ix1 h) * Attn.query x b h g e) * Ideal.ofBits FTy.f32 1040187392#32 - Finset.fold max (Ideal.ofBits FTy.f32 4286578688#32)
      (fun t : Fin 2049 => (∑ e : Fin 64, (if ht : (t : ℕ) < 2048 then kc (ix4 b ⟨t, ht⟩ h e) else Attn.codes kn ks (ix4 b ⟨t - 2048, by omega⟩ h e))
        * ks (ix1 h) * Attn.query x b h g e) * Ideal.ofBits FTy.f32 1040187392#32) Finset.univ)) + ∑ _t : Fin 1, Ideal.exp ((∑ e : Fin 64, Attn.codes kn ks (ix4 b 0 h e) * ks (ix1 h) * Attn.query x b h g e) * Ideal.ofBits FTy.f32 1040187392#32 - Finset.fold max (Ideal.ofBits FTy.f32 4286578688#32)
      (fun t : Fin 2049 => (∑ e : Fin 64, (if ht : (t : ℕ) < 2048 then kc (ix4 b ⟨t, ht⟩ h e) else Attn.codes kn ks (ix4 b ⟨t - 2048, by omega⟩ h e))
        * ks (ix1 h) * Attn.query x b h g e) * Ideal.ofBits FTy.f32 1040187392#32) Finset.univ))
    = Attn.attend x kn vn kc vc ks vs b h g d := by
  rw [top_eq']
  simp only [score_eq, newScore_eq, Finset.univ_unique, Finset.sum_singleton]
  rfl

end Plain

set_option maxHeartbeats 2000000 in
/-- The operations after the region, read at one element, from what the region left. -/
theorem ops79 (σ : Valuation τ sig (Elt Ideal)) (x : FVec Ideal S64x1x2048 .bf16) (kn vn : FVec Ideal S64x1x8x64 .bf16)
    (kc vc : FVec Ideal S64x2048x8x64 .fp8e4m3) (ks vs : FVec Ideal S8 .f32)
    (hq : ∀ (b : Fin 64) (h : Fin 8) (g : Fin 4) (e : Fin 64), σ (Proc.devRef .tc main_v6) (ix5 b 0 h g e : S64x1x8x4x64.Idx) = Attn.query x b h g e)
    (h2 : σ (Proc.devRef .tc main_v49_2) = (kc : S64x2048x8x64.Idx → EReal)) (h3 : σ (Proc.devRef .tc main_v49_3) = (vc : S64x2048x8x64.Idx → EReal))
    (h4 : σ (Proc.devRef .tc main_v49_4) = (Attn.codes kn ks : S64x1x8x64.Idx → EReal))
    (h5 : σ (Proc.devRef .tc main_v49_5) = (Attn.codes vn vs : S64x1x8x64.Idx → EReal))
    (hk : σ (Proc.devRef .tc main_arg4) = (ks : S8.Idx → EReal)) (hv : σ (Proc.devRef .tc main_arg6) = (vs : S8.Idx → EReal)) (b : Fin 64) (n : Fin 2048) :
    StableHlo.after hostOps1 σ (Proc.devRef .tc main_v79) (ix3 b 0 n : S64x1x2048.Idx) = Attn.output x kn vn kc vc ks vs (ix3 b 0 n) := by
  after_reads_at
  simp only [StableHlo.upto_zero]
  after_reads_simp
  simp only [h2, h3, h4, h5, hk, hv, hq]
  exact plain x kn vn kc vc ks vs b ⟨n / 256, by omega⟩ ⟨n / 64 % 4, by omega⟩ ⟨n % 64, by omega⟩

variable (m : (ℓ : Loc nD τ sig) → Buf (Elt Ideal) ℓ) (c : Dev nD)

/-- The buffers when the region has ended. -/
abbrev env : Valuation τ sig (Elt Ideal) := Pipeline.withArrays spec0 c (V0 m c) fun w => (dats m 0 c).arrAt w cfg0.N

theorem inj0 : Function.Injective (Pipeline.arrRef spec0) := by decide

theorem env_arr (w : Fin cfg0.W) : env m c (Proc.devRef .tc (Pipeline.arrRef spec0 w)) = (dats m 0 c).arrAt w cfg0.N :=
  Pipeline.withArrays_arr spec0 inj0 c (V0 m c) (fun w => (dats m 0 c).arrAt w cfg0.N) w

/-- The attention output as returned. -/
theorem out79 : Pipeline.afterTail₀ cfgs (dats m) 0 (V0 m) [hostOps1] c main_v79
    = Attn.output (argX m c) (argK m c) (argV m c) (argKC m c) (argVC m c) (argKS m c) (argVS m c) := by
  funext i
  change S64x1x2048.Idx at i
  obtain ⟨b, z, n, rfl⟩ : ∃ (b : Fin 64) (z : Fin 1) (n : Fin 2048), i = ix3 b z n := ⟨i 0, i 1, i 2, ValueIdx.eq_ix3 i⟩
  obtain rfl : z = 0 := Subsingleton.elim _ _
  unfold Pipeline.afterTail₀
  simp only [List.flatten_cons, List.flatten_nil, List.append_nil]
  refine ops79 (env m c) (argX m c) (argK m c) (argV m c) (argKC m c) (argVC m c) (argKS m c) (argVS m c) ?_ ?_ ?_ ?_ ?_ ?_ ?_ b n
  · intro b h g e
    exact (congrFun (Pipeline.withArrays_of_ne spec0 c (V0 m c) _ main_v6 (by exact (by decide : ∀ w, Pipeline.arrRef spec0 w ≠ main_v6))) _).trans
      (Entry.queries m c b h g e)
  · exact (env_arr m c 8).trans (final8 m c)
  · exact (env_arr m c 9).trans (final9 m c)
  · exact (env_arr m c 10).trans (final10 m c)
  · exact (env_arr m c 11).trans (final11 m c)
  · exact (Pipeline.withArrays_of_ne spec0 c (V0 m c) _ main_arg4 (by exact (by decide : ∀ w, Pipeline.arrRef spec0 w ≠ main_arg4))).trans (V_main_arg4 m c)
  · exact (Pipeline.withArrays_of_ne spec0 c (V0 m c) _ main_arg6 (by exact (by decide : ∀ w, Pipeline.arrRef spec0 w ≠ main_arg6))).trans (V_main_arg6 m c)

/-- The run: the five results as functions of the arguments, and the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v79) = Attn.output (argX m c) (argK m c) (argV m c) (argKC m c) (argVC m c) (argKS m c) (argVS m c)
      ∧ r.2.mem ((c.tc : Thread nD τ).loc main_v49_0) = Attn.codes (argK m c) (argKS m c)
      ∧ r.2.mem ((c.tc : Thread nD τ).loc main_arg4) = argKS m c
      ∧ r.2.mem ((c.tc : Thread nD τ).loc main_v49_1) = Attn.codes (argV m c) (argVS m c)
      ∧ r.2.mem ((c.tc : Thread nD τ).loc main_arg6) = argVS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run _ _ _).mono (fun r h c => ?_) (θ_run_and (unchanged m g) (run_main m g))
  obtain ⟨hu, hf⟩ := h
  obtain ⟨a0, a1, a2, a3, a4, a5, a6⟩ := hu c
  exact ⟨((hf c).2 main_v79 (Pipeline.mem_restRefs_of main_v79 (by decide) (by decide))).trans (out79 m c),
    ((hf c).1 6).trans (final6 m c), a4,
    ((hf c).1 7).trans (final7 m c), a6, a0, a1, a2, a3, a4, a5, a6⟩

end Cert.ReferenceIdeal.Tail
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Attn.Tail
public import proofs.«01_k».proof.Proof.Attn.RefTail
public import Idealize.ShloMosaic.Adequacy
public import Idealize.ShloMosaic.Init

@[expose] public section

noncomputable section

namespace Cert.Proof

open Idealize.ShloMosaic Idealize.SL.Sem Cert.Kernel

/-- From agreeing arguments the two attention outputs agree. -/
theorem equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : Cert.ReferenceIdeal.Final.argX m' c = Cert.KernelIdeal.Final.argX m c) (h1 : Cert.ReferenceIdeal.Final.argK m' c = Cert.KernelIdeal.Final.argK m c)
    (h2 : Cert.ReferenceIdeal.Final.argV m' c = Cert.KernelIdeal.Final.argV m c) (h3 : Cert.ReferenceIdeal.Final.argKC m' c = Cert.KernelIdeal.Final.argKC m c)
    (h4 : Cert.ReferenceIdeal.Final.argKS m' c = Cert.KernelIdeal.Final.argKS m c) (h5 : Cert.ReferenceIdeal.Final.argVC m' c = Cert.KernelIdeal.Final.argVC m c)
    (h6 : Cert.ReferenceIdeal.Final.argVS m' c = Cert.KernelIdeal.Final.argVS m c) :
    Attn.output (Cert.ReferenceIdeal.Final.argX m' c) (Cert.ReferenceIdeal.Final.argK m' c) (Cert.ReferenceIdeal.Final.argV m' c) (Cert.ReferenceIdeal.Final.argKC m' c)
        (Cert.ReferenceIdeal.Final.argVC m' c) (Cert.ReferenceIdeal.Final.argKS m' c) (Cert.ReferenceIdeal.Final.argVS m' c)
      = Attn.output (Cert.KernelIdeal.Final.argX m c) (Cert.KernelIdeal.Final.argK m c) (Cert.KernelIdeal.Final.argV m c) (Cert.KernelIdeal.Final.argKC m c)
        (Cert.KernelIdeal.Final.argVC m c) (Cert.KernelIdeal.Final.argKS m c) (Cert.KernelIdeal.Final.argVS m c) := by
  rw [h0, h1, h2, h3, h4, h5, h6]

/-- The value claim. -/
theorem algebraic [Cert.KernelIdeal.Facts] [Cert.ReferenceIdeal.Facts] : Cert.algebraic_KernelIdeal_ReferenceIdeal := by
  intro m g m' g' _ hagree
  refine ⟨_, _, _, _, _, Cert.KernelIdeal.Tail.run m g, ?_⟩
  refine (θ_run _ _ _).mono (fun r h c => ?_) (Cert.ReferenceIdeal.Tail.run m' g')
  obtain ⟨h0, h1, h2, h3, h4, h5, h6⟩ := hagree c
  obtain ⟨e0, e1, e2, e3, e4, e⟩ := h c
  exact ⟨e0.trans (equal m m' c h0 h1 h2 h3 h4 h5 h6), e1.trans (congrArg₂ Attn.codes h1 h4), e2.trans h4, e3.trans (congrArg₂ Attn.codes h2 h6), e4.trans h6, e⟩

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, fun m g _ => Cert.ReferenceIdeal.Gen.frame m g, trivial, algebraic⟩

end Cert.Proof

end
